-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_gain [hPre_finite_gain : Cert.Pre_finite_gain.Facts] (m : (ℓ : Loc Cert.NormIdeal.nD Cert.NormIdeal.τ Cert.NormIdeal.sig) → Buf (Elt Ideal) ℓ) : Prop :=
  ∀ c : Dev Cert.NormIdeal.nD,
    (Cert.Pre_finite_gain.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_gain [hPre_finite_gain : Cert.Pre_finite_gain.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_gain.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormIdeal_pre_finite_gain [hNormIdeal : Cert.NormIdeal.Facts] [hPre_finite_gain : Cert.Pre_finite_gain.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_gain m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_NormRefIdeal_pre_finite_gain [hNormRefIdeal : Cert.NormRefIdeal.Facts] [hPre_finite_gain : Cert.Pre_finite_gain.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_gain m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def preserves_Norm_NormIdeal : Prop :=
  IdealRules.named_const.Statement Cert.NormIdeal.κ "inv_d" .f32 0x39124925#32 ((1 / 7168 : ℝ) : EReal)

def algebraic_NormIdeal_NormRefIdeal_pre_finite_gain [hNormIdeal : Cert.NormIdeal.Facts] [hNormRefIdeal : Cert.NormRefIdeal.Facts] [hPre_finite_gain : Cert.Pre_finite_gain.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_gain m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v4_0)) (v1 : (c : Dev Cert.NormIdeal.nD) → Buf (Elt Ideal) ((c.tc : Thread Cert.NormIdeal.nD Cert.NormIdeal.τ).loc Cert.NormIdeal.main_v4_1)) (v2 : (c : Dev Cert.NormIdeal.nD) → Buf (Elt Ideal) ((c.tc : Thread Cert.NormIdeal.nD Cert.NormIdeal.τ).loc Cert.NormIdeal.main_v4_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4_0) = v0 c
          ∧ r.2.mem ((c.tc : Thread Cert.NormIdeal.nD Cert.NormIdeal.τ).loc Cert.NormIdeal.main_v4_1) = v1 c
          ∧ r.2.mem ((c.tc : Thread Cert.NormIdeal.nD Cert.NormIdeal.τ).loc Cert.NormIdeal.main_v4_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v9_0) = v0 c
          ∧ r.2.mem ((c.tc : Thread Cert.NormRefIdeal.nD Cert.NormRefIdeal.τ).loc Cert.NormRefIdeal.main_v9_1) = v1 c
          ∧ r.2.mem ((c.tc : Thread Cert.NormRefIdeal.nD Cert.NormRefIdeal.τ).loc Cert.NormRefIdeal.main_v9_2) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v10) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def Claim : Prop :=
  ∃ (hNorm : Cert.Norm.Facts) (hNormIdeal : Cert.NormIdeal.Facts) (hNormRefIdeal : Cert.NormRefIdeal.Facts) (hQkv : Cert.Qkv.Facts) (hQkvIdeal : Cert.QkvIdeal.Facts) (hQkvRefIdeal : Cert.QkvRefIdeal.Facts) (hPre_finite_gain : Cert.Pre_finite_gain.Facts),
    quiescent_Norm (hNorm := hNorm)
    ∧ quiescent_NormIdeal (hNormIdeal := hNormIdeal)
    ∧ quiescent_NormIdeal_pre_finite_gain (hNormIdeal := hNormIdeal) (hPre_finite_gain := hPre_finite_gain)
    ∧ quiescent_NormRefIdeal (hNormRefIdeal := hNormRefIdeal)
    ∧ quiescent_NormRefIdeal_pre_finite_gain (hNormRefIdeal := hNormRefIdeal) (hPre_finite_gain := hPre_finite_gain)
    ∧ quiescent_Qkv (hQkv := hQkv)
    ∧ quiescent_QkvIdeal (hQkvIdeal := hQkvIdeal)
    ∧ quiescent_QkvRefIdeal (hQkvRefIdeal := hQkvRefIdeal)
    ∧ preserves_Norm_NormIdeal
    ∧ algebraic_NormIdeal_NormRefIdeal_pre_finite_gain (hNormIdeal := hNormIdeal) (hNormRefIdeal := hNormRefIdeal) (hPre_finite_gain := hPre_finite_gain)
    ∧ preserves_Qkv_QkvIdeal
    ∧ algebraic_QkvIdeal_QkvRefIdeal (hQkvIdeal := hQkvIdeal) (hQkvRefIdeal := hQkvRefIdeal)
-- ==== Pre_finite_gain.lean ====
abbrev S4096x7168 : Shape := ⟨2, ![4096, 7168]⟩
abbrev S4096x2048 : Shape := ⟨2, ![4096, 2048]⟩
abbrev S4096x16 : Shape := ⟨2, ![4096, 16]⟩
abbrev S2048x7168 : Shape := ⟨2, ![2048, 7168]⟩
abbrev S16x56 : Shape := ⟨2, ![16, 56]⟩
abbrev S7168 : Shape := ⟨1, ![7168]⟩
abbrev S_ : Shape := ⟨0, ![]⟩

class Facts : Prop where
  bcast_S_S7168 : S_.BroadcastsInDim S7168 (![] : Fin 0 → Fin S7168.rank)
  reducesTo_S7168_S_d0 : S7168.ReducesTo [0] S_
  h_S_ : 0 < S_.numel

variable [Facts]

def fn {F : FTy → Type} [FloatOps F] (main_arg0 : FVec F S4096x7168 .bf16) (main_arg1 : FVec F S4096x7168 .f32) (main_arg2 : FVec F S4096x2048 .fp8e4m3) (main_arg3 : FVec F S4096x16 .f32) (main_arg4 : FVec F S2048x7168 .fp8e4m3) (main_arg5 : FVec F S16x56 .f32) (main_arg6 : FVec F S7168 .f32) : IVec S_ 1 :=
  let main_v0 : FVec F S7168 .f32 := Host.absf main_arg6
  let main_cst : FVec F S_ .f32 := constant S_ .f32 0x7F7FFFFF#32
  let main_v1 : FVec F S7168 .f32 := broadcastInDim S7168 ![] bcast_S_S7168 main_cst
  let main_v2 : IVec S7168 1 := cmpf .ole main_v0 main_v1
  let main_c : IVec S_ 1 := constantI S_ 1 1#1
  let main_v3 : IVec S_ 1 := (fun x v => Host.reduce IntOp.andi x v reducesTo_S7168_S_d0 h_S_) main_v2 main_c
  main_v3
-- ==== Norm.lean ====
abbrev S4096x7168 : Shape := ⟨2, ![4096, 7168]⟩
abbrev S4096x2048 : Shape := ⟨2, ![4096, 2048]⟩
abbrev S4096x16 : Shape := ⟨2, ![4096, 16]⟩
abbrev S2048x7168 : Shape := ⟨2, ![2048, 7168]⟩
abbrev S16x56 : Shape := ⟨2, ![16, 56]⟩
abbrev S7168 : Shape := ⟨1, ![7168]⟩
abbrev S16x4096 : Shape := ⟨2, ![16, 4096]⟩
abbrev S16x56x128 : Shape := ⟨3, ![16, 56, 128]⟩
abbrev S16x7168 : Shape := ⟨2, ![16, 7168]⟩
abbrev S1x7168 : Shape := ⟨2, ![1, 7168]⟩
abbrev S56x4096 : Shape := ⟨2, ![56, 4096]⟩
abbrev S128x7168 : Shape := ⟨2, ![128, 7168]⟩
abbrev S128x2048 : Shape := ⟨2, ![128, 2048]⟩
abbrev S16x128 : Shape := ⟨2, ![16, 128]⟩
abbrev S56x128 : Shape := ⟨2, ![56, 128]⟩
abbrev S128x16 : Shape := ⟨2, ![128, 16]⟩
abbrev S128x128 : Shape := ⟨2, ![128, 128]⟩
abbrev S128x1 : Shape := ⟨2, ![128, 1]⟩
abbrev S2048x256 : Shape := ⟨2, ![2048, 256]⟩
abbrev S128x256 : Shape := ⟨2, ![128, 256]⟩
abbrev S128 : Shape := ⟨1, ![128]⟩
abbrev S1x128 : Shape := ⟨2, ![1, 128]⟩

abbrev nBuf : Space → Nat
  | .hbm => 14
  | .vmem => 19
  | .smem => 0
  | _ => 0

abbrev bufTy : (tb : Table) → Fin (tcTables nBuf tb) → BufTy
  | .hbm, ⟨0, _⟩ => ⟨S4096x7168, .bf16⟩
  | .hbm, ⟨1, _⟩ => ⟨S4096x7168, .f32⟩
  | .hbm, ⟨2, _⟩ => ⟨S4096x2048, .fp8e4m3⟩
  | .hbm, ⟨3, _⟩ => ⟨S4096x16, .f32⟩
  | .hbm, ⟨4, _⟩ => ⟨S2048x7168, .fp8e4m3⟩
  | .hbm, ⟨5, _⟩ => ⟨S16x56, .f32⟩
  | .hbm, ⟨6, _⟩ => ⟨S7168, .f32⟩
  | .hbm, ⟨7, _⟩ => ⟨S16x4096, .f32⟩
  | .hbm, ⟨8, _⟩ => ⟨S16x56x128, .f32⟩
  | .hbm, ⟨9, _⟩ => ⟨S16x7168, .f32⟩
  | .hbm, ⟨10, _⟩ => ⟨S1x7168, .f32⟩
  | .hbm, ⟨11, _⟩ => ⟨S4096x7168, .bf16⟩
  | .hbm, ⟨12, _⟩ => ⟨S4096x7168, .fp8e4m3⟩
  | .hbm, ⟨13, _⟩ => ⟨S56x4096, .f32⟩
  | .local _ .vmem, ⟨0, _⟩ => ⟨S128x7168, .bf16⟩
  | .local _ .vmem, ⟨1, _⟩ => ⟨S128x7168, .bf16⟩
  | .local _ .vmem, ⟨2, _⟩ => ⟨S128x7168, .f32⟩
  | .local _ .vmem, ⟨3, _⟩ => ⟨S128x7168, .f32⟩
  | .local _ .vmem, ⟨4, _⟩ => ⟨S128x2048, .fp8e4m3⟩
  | .local _ .vmem, ⟨5, _⟩ => ⟨S128x2048, .fp8e4m3⟩
  | .local _ .vmem, ⟨6, _⟩ => ⟨S16x128, .f32⟩
  | .local _ .vmem, ⟨7, _⟩ => ⟨S16x128, .f32⟩
  | .local _ .vmem, ⟨8, _⟩ => ⟨S2048x7168, .fp8e4m3⟩
  | .local _ .vmem, ⟨9, _⟩ => ⟨S16x7168, .f32⟩
  | .local _ .vmem, ⟨10, _⟩ => ⟨S1x7168, .f32⟩
  | .local _ .vmem, ⟨11, _⟩ => ⟨S128x7168, .bf16⟩
  | .local _ .vmem, ⟨12, _⟩ => ⟨S128x7168, .bf16⟩
  | .local _ .vmem, ⟨13, _⟩ => ⟨S128x7168, .fp8e4m3⟩
  | .local _ .vmem, ⟨14, _⟩ => ⟨S128x7168, .fp8e4m3⟩
  | .local _ .vmem, ⟨15, _⟩ => ⟨S56x128, .f32⟩
  | .local _ .vmem, ⟨16, _⟩ => ⟨S56x128, .f32⟩
  | .local _ .vmem, ⟨17, _⟩ => ⟨S2048x7168, .bf16⟩
  | .local _ .vmem, ⟨18, _⟩ => ⟨S128x7168, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1439 : BitVec 32 := 0#32
  let c16_i32_1440 : BitVec 32 := 16#32
  let v3673 : BitVec 32 := Scalar.addi c0_i32_1439 c16_i32_1440
  let c1_i32_1441 : BitVec 32 := 1#32
  ⟨c0_i32_1439, v3673, c1_i32_1441⟩
def k0_mult1 (k0_t1 : Fin k0_t1_loop.trips) : BitVec 32 :=
  let c0_i32_1439 : BitVec 32 := 0#32
  let c1_i32_1441 : BitVec 32 := 1#32
  let arg13 : BitVec 32 := Scf.iv c0_i32_1439 c1_i32_1441 k0_t1
  let c128_i32 : BitVec 32 := 128#32
  let v3674 : BitVec 32 := Scalar.muli arg13 c128_i32
  v3674
def k0_off1 (k0_t1 : Fin k0_t1_loop.trips) : Fin 2 → Nat :=
  let c0_i32_1439 : BitVec 32 := 0#32
  let c1_i32_1441 : BitVec 32 := 1#32
  let arg13 : BitVec 32 := Scf.iv c0_i32_1439 c1_i32_1441 k0_t1
  let c128_i32 : BitVec 32 := 128#32
  let v3674 : BitVec 32 := Scalar.muli arg13 c128_i32
  let v3675 : BitVec 32 := v3674
  let v3676 : Index := Scalar.indexCast v3675
  let c0_1443 : Index := 0#32
  ![v3676.toNat, 0]
def k0_off2 (k0_t1 : Fin k0_t1_loop.trips) : Fin 2 → Nat :=
  let c0_i32_1439 : BitVec 32 := 0#32
  let c1_i32_1441 : BitVec 32 := 1#32
  let arg13 : BitVec 32 := Scf.iv c0_i32_1439 c1_i32_1441 k0_t1
  let v3679 : Index := Scalar.indexCast arg13
  let c0_1444 : Index := 0#32
  ![v3679.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x7168 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x7168 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x7168 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S56x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== NormIdeal.lean ====
variable {F : FTy → Type} [FloatOps F] [Named F]
def κ : String → Option EReal := fun
  | "inv_d" => some ((1 / 7168 : ℝ) : EReal)
  | _ => none
-- ==== NormRefIdeal.lean ====
abbrev S4096x7168 : Shape := ⟨2, ![4096, 7168]⟩
abbrev S4096x2048 : Shape := ⟨2, ![4096, 2048]⟩
abbrev S4096x16 : Shape := ⟨2, ![4096, 16]⟩
abbrev S2048x7168 : Shape := ⟨2, ![2048, 7168]⟩
abbrev S16x56 : Shape := ⟨2, ![16, 56]⟩
abbrev S7168 : Shape := ⟨1, ![7168]⟩
abbrev S4096x16x128 : Shape := ⟨3, ![4096, 16, 128]⟩
abbrev S16x128x56 : Shape := ⟨3, ![16, 128, 56]⟩
abbrev S2048x56 : Shape := ⟨2, ![2048, 56]⟩
abbrev S2048x56x128 : Shape := ⟨3, ![2048, 56, 128]⟩
abbrev S1x7168 : Shape := ⟨2, ![1, 7168]⟩
abbrev S56x4096 : Shape := ⟨2, ![56, 4096]⟩
abbrev S4096 : Shape := ⟨1, ![4096]⟩
abbrev S4096x1 : Shape := ⟨2, ![4096, 1]⟩
abbrev S4096x56x128 : Shape := ⟨3, ![4096, 56, 128]⟩
abbrev S4096x56 : Shape := ⟨2, ![4096, 56]⟩
abbrev S4096x56x1 : Shape := ⟨3, ![4096, 56, 1]⟩

abbrev nBuf : Space → Nat
  | .hbm => 19
  | .vmem => 10
  | .smem => 0
  | _ => 0

abbrev bufTy : (tb : Table) → Fin (tcTables nBuf tb) → BufTy
  | .hbm, ⟨0, _⟩ => ⟨S4096x7168, .bf16⟩
  | .hbm, ⟨1, _⟩ => ⟨S4096x7168, .f32⟩
  | .hbm, ⟨2, _⟩ => ⟨S4096x2048, .fp8e4m3⟩
  | .hbm, ⟨3, _⟩ => ⟨S4096x16, .f32⟩
  | .hbm, ⟨4, _⟩ => ⟨S2048x7168, .fp8e4m3⟩
  | .hbm, ⟨5, _⟩ => ⟨S16x56, .f32⟩
  | .hbm, ⟨6, _⟩ => ⟨S7168, .f32⟩
  | .hbm, ⟨7, _⟩ => ⟨S4096x16, .bf16⟩
  | .hbm, ⟨8, _⟩ => ⟨S4096x16x128, .bf16⟩
  | .hbm, ⟨9, _⟩ => ⟨S4096x2048, .bf16⟩
  | .hbm, ⟨10, _⟩ => ⟨S16x56, .bf16⟩
  | .hbm, ⟨11, _⟩ => ⟨S16x128x56, .bf16⟩
  | .hbm, ⟨12, _⟩ => ⟨S2048x56, .bf16⟩
  | .hbm, ⟨13, _⟩ => ⟨S2048x56x128, .bf16⟩
  | .hbm, ⟨14, _⟩ => ⟨S2048x7168, .bf16⟩
  | .hbm, ⟨15, _⟩ => ⟨S1x7168, .f32⟩
  | .hbm, ⟨16, _⟩ => ⟨S4096x7168, .bf16⟩
  | .hbm, ⟨17, _⟩ => ⟨S4096x7168, .fp8e4m3⟩
  | .hbm, ⟨18, _⟩ => ⟨S56x4096, .f32⟩
  | .local _ .vmem, ⟨0, _⟩ => ⟨S4096x7168, .bf16⟩
  | .local _ .vmem, ⟨1, _⟩ => ⟨S4096x7168, .f32⟩
  | .local _ .vmem, ⟨2, _⟩ => ⟨S4096x2048, .fp8e4m3⟩
  | .local _ .vmem, ⟨3, _⟩ => ⟨S4096x2048, .bf16⟩
  | .local _ .vmem, ⟨4, _⟩ => ⟨S2048x7168, .fp8e4m3⟩
  | .local _ .vmem, ⟨5, _⟩ => ⟨S2048x7168, .bf16⟩
  | .local _ .vmem, ⟨6, _⟩ => ⟨S1x7168, .f32⟩
  | .local _ .vmem, ⟨7, _⟩ => ⟨S4096x7168, .bf16⟩
  | .local _ .vmem, ⟨8, _⟩ => ⟨S4096x7168, .fp8e4m3⟩
  | .local _ .vmem, ⟨9, _⟩ => ⟨S56x4096, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4096x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S56x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Qkv.lean ====
abbrev S4096x7168 : Shape := ⟨2, ![4096, 7168]⟩
abbrev S56x4096 : Shape := ⟨2, ![56, 4096]⟩
abbrev S7168x2112 : Shape := ⟨2, ![7168, 2112]⟩
abbrev S56x17 : Shape := ⟨2, ![56, 17]⟩
abbrev S2112x7168 : Shape := ⟨2, ![2112, 7168]⟩
abbrev S17x56 : Shape := ⟨2, ![17, 56]⟩
abbrev S17x56x128 : Shape := ⟨3, ![17, 56, 128]⟩
abbrev S17x7168 : Shape := ⟨2, ![17, 7168]⟩
abbrev S2112x4096 : Shape := ⟨2, ![2112, 4096]⟩
abbrev S256x7168 : Shape := ⟨2, ![256, 7168]⟩
abbrev S56x256 : Shape := ⟨2, ![56, 256]⟩
abbrev S2112x256 : Shape := ⟨2, ![2112, 256]⟩
abbrev S128x512 : Shape := ⟨2, ![128, 512]⟩
abbrev S1x512 : Shape := ⟨2, ![1, 512]⟩
abbrev S64x512 : Shape := ⟨2, ![64, 512]⟩
abbrev S72x256 : Shape := ⟨2, ![72, 256]⟩
abbrev S128x256 : Shape := ⟨2, ![128, 256]⟩
abbrev S256x128 : Shape := ⟨2, ![256, 128]⟩
abbrev S256x1 : Shape := ⟨2, ![256, 1]⟩
abbrev S528x7168 : Shape := ⟨2, ![528, 7168]⟩
abbrev S528x256 : Shape := ⟨2, ![528, 256]⟩

abbrev nBuf : Space → Nat
  | .hbm => 9
  | .vmem => 10
  | .smem => 0
  | _ => 0

abbrev bufTy : (tb : Table) → Fin (tcTables nBuf tb) → BufTy
  | .hbm, ⟨0, _⟩ => ⟨S4096x7168, .fp8e4m3⟩
  | .hbm, ⟨1, _⟩ => ⟨S56x4096, .f32⟩
  | .hbm, ⟨2, _⟩ => ⟨S7168x2112, .fp8e4m3⟩
  | .hbm, ⟨3, _⟩ => ⟨S56x17, .f32⟩
  | .hbm, ⟨4, _⟩ => ⟨S2112x7168, .fp8e4m3⟩
  | .hbm, ⟨5, _⟩ => ⟨S17x56, .f32⟩
  | .hbm, ⟨6, _⟩ => ⟨S17x56x128, .f32⟩
  | .hbm, ⟨7, _⟩ => ⟨S17x7168, .f32⟩
  | .hbm, ⟨8, _⟩ => ⟨S2112x4096, .bf16⟩
  | .local _ .vmem, ⟨0, _⟩ => ⟨S256x7168, .fp8e4m3⟩
  | .local _ .vmem, ⟨1, _⟩ => ⟨S256x7168, .fp8e4m3⟩
  | .local _ .vmem, ⟨2, _⟩ => ⟨S56x256, .f32⟩
  | .local _ .vmem, ⟨3, _⟩ => ⟨S56x256, .f32⟩
  | .local _ .vmem, ⟨4, _⟩ => ⟨S2112x7168, .fp8e4m3⟩
  | .local _ .vmem, ⟨5, _⟩ => ⟨S17x7168, .f32⟩
  | .local _ .vmem, ⟨6, _⟩ => ⟨S2112x256, .bf16⟩
  | .local _ .vmem, ⟨7, _⟩ => ⟨S2112x256, .bf16⟩
  | .local _ .vmem, ⟨8, _⟩ => ⟨S2112x7168, .bf16⟩
  | .local _ .vmem, ⟨9, _⟩ => ⟨S256x7168, .bf16⟩
  | _, _ => ⟨S4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_173 : BitVec 32 := 0#32
  let c14_i32 : BitVec 32 := 14#32
  let v457 : BitVec 32 := Scalar.addi c0_i32_173 c14_i32
  let c1_i32_174 : BitVec 32 := 1#32
  ⟨c0_i32_173, v457, c1_i32_174⟩
def k0_mult1 (k0_t1 : Fin k0_t1_loop.trips) : BitVec 32 :=
  let c0_i32_173 : BitVec 32 := 0#32
  let c1_i32_174 : BitVec 32 := 1#32
  let arg8 : BitVec 32 := Scf.iv c0_i32_173 c1_i32_174 k0_t1
  let c512_i32 : BitVec 32 := 512#32
  let v474 : BitVec 32 := Scalar.muli arg8 c512_i32
  v474
def k0_off1 (k0_t1 : Fin k0_t1_loop.trips) : Fin 2 → Nat :=
  let c0_240 : Index := 0#32
  let c0_i32_173 : BitVec 32 := 0#32
  let c1_i32_174 : BitVec 32 := 1#32
  let arg8 : BitVec 32 := Scf.iv c0_i32_173 c1_i32_174 k0_t1
  let c512_i32 : BitVec 32 := 512#32
  let v474 : BitVec 32 := Scalar.muli arg8 c512_i32
  let v475 : BitVec 32 := v474
  let v476 : Index := Scalar.indexCast v475
  ![0, v476.toNat]
def k0_off2 (k0_t1 : Fin k0_t1_loop.trips) : Fin 2 → Nat :=
  let c0_241 : Index := 0#32
  let c0_i32_173 : BitVec 32 := 0#32
  let c1_i32_174 : BitVec 32 := 1#32
  let arg8 : BitVec 32 := Scf.iv c0_i32_173 c1_i32_174 k0_t1
  let c512_i32 : BitVec 32 := 512#32
  let v474 : BitVec 32 := Scalar.muli arg8 c512_i32
  let v475 : BitVec 32 := v474
  let v480 : Index := Scalar.indexCast v475
  ![0, v480.toNat]
@[reducible] def k0_t2_loop : Scf.Loop 32 :=
  let c0_i32_176 : BitVec 32 := 0#32
  let c14_i32_177 : BitVec 32 := 14#32
  let v458 : BitVec 32 := Scalar.addi c0_i32_176 c14_i32_177
  let c1_i32_178 : BitVec 32 := 1#32
  ⟨c0_i32_176, v458, c1_i32_178⟩
def k0_mult2 (k0_t2 : Fin k0_t2_loop.trips) : BitVec 32 :=
  let c0_i32_176 : BitVec 32 := 0#32
  let c1_i32_178 : BitVec 32 := 1#32
  let arg8 : BitVec 32 := Scf.iv c0_i32_176 c1_i32_178 k0_t2
  let c512_i32 : BitVec 32 := 512#32
  let v474 : BitVec 32 := Scalar.muli arg8 c512_i32
  v474
def k0_off3 (k0_t2 : Fin k0_t2_loop.trips) : Fin 2 → Nat :=
  let c128_240 : Index := 128#32
  let c0_i32_176 : BitVec 32 := 0#32
  let c1_i32_178 : BitVec 32 := 1#32
  let arg8 : BitVec 32 := Scf.iv c0_i32_176 c1_i32_178 k0_t2
  let c512_i32 : BitVec 32 := 512#32
  let v474 : BitVec 32 := Scalar.muli arg8 c512_i32
  let v475 : BitVec 32 := v474
  let v476 : Index := Scalar.indexCast v475
  ![128, v476.toNat]
def k0_off4 (k0_t2 : Fin k0_t2_loop.trips) : Fin 2 → Nat :=
  let c1 : Index := 1#32
  let c0_i32_176 : BitVec 32 := 0#32
  let c1_i32_178 : BitVec 32 := 1#32
  let arg8 : BitVec 32 := Scf.iv c0_i32_176 c1_i32_178 k0_t2
  let c512_i32 : BitVec 32 := 512#32
  let v474 : BitVec 32 := Scalar.muli arg8 c512_i32
  let v475 : BitVec 32 := v474
  let v480 : Index := Scalar.indexCast v475
  ![1, v480.toNat]
@[reducible] def k0_t3_loop : Scf.Loop 32 :=
  let c0_i32_180 : BitVec 32 := 0#32
  let c14_i32_181 : BitVec 32 := 14#32
  let v459 : BitVec 32 := Scalar.addi c0_i32_180 c14_i32_181
  let c1_i32_182 : BitVec 32 := 1#32
  ⟨c0_i32_180, v459, c1_i32_182⟩
def k0_mult3 (k0_t3 : Fin k0_t3_loop.trips) : BitVec 32 :=
  let c0_i32_180 : BitVec 32 := 0#32
  let c1_i32_182 : BitVec 32 := 1#32
  let arg8 : BitVec 32 := Scf.iv c0_i32_180 c1_i32_182 k0_t3
  let c512_i32 : BitVec 32 := 512#32
  let v474 : BitVec 32 := Scalar.muli arg8 c512_i32
  v474
def k0_off5 (k0_t3 : Fin k0_t3_loop.trips) : Fin 2 → Nat :=
  let c256_240 : Index := 256#32
  let c0_i32_180 : BitVec 32 := 0#32
  let c1_i32_182 : BitVec 32 := 1#32
  let arg8 : BitVec 32 := Scf.iv c0_i32_180 c1_i32_182 k0_t3
  let c512_i32 : BitVec 32 := 512#32
  let v474 : BitVec 32 := Scalar.muli arg8 c512_i32
  let v475 : BitVec 32 := v474
  let v476 : Index := Scalar.indexCast v475
  ![256, v476.toNat]
def k0_off6 (k0_t3 : Fin k0_t3_loop.trips) : Fin 2 → Nat :=
  let c2 : Index := 2#32
  let c0_i32_180 : BitVec 32 := 0#32
  let c1_i32_182 : BitVec 32 := 1#32
  let arg8 : BitVec 32 := Scf.iv c0_i32_180 c1_i32_182 k0_t3
  let c512_i32 : BitVec 32 := 512#32
  let v474 : BitVec 32 := Scalar.muli arg8 c512_i32
  let v475 : BitVec 32 := v474
  let v480 : Index := Scalar.indexCast v475
  ![2, v480.toNat]
@[reducible] def k0_t4_loop : Scf.Loop 32 :=
  let c0_i32_184 : BitVec 32 := 0#32
  let c14_i32_185 : BitVec 32 := 14#32
  let v460 : BitVec 32 := Scalar.addi c0_i32_184 c14_i32_185
  let c1_i32_186 : BitVec 32 := 1#32
  ⟨c0_i32_184, v460, c1_i32_186⟩
def k0_mult4 (k0_t4 : Fin k0_t4_loop.trips) : BitVec 32 :=
  let c0_i32_184 : BitVec 32 := 0#32
  let c1_i32_186 : BitVec 32 := 1#32
  let arg8 : BitVec 32 := Scf.iv c0_i32_184 c1_i32_186 k0_t4
  let c512_i32 : BitVec 32 := 512#32
  let v474 : BitVec 32 := Scalar.muli arg8 c512_i32
  v474
def k0_off7 (k0_t4 : Fin k0_t4_loop.trips) : Fin 2 → Nat :=
  let c384_240 : Index := 384#32
  let c0_i32_184 : BitVec 32 := 0#32
  let c1_i32_186 : BitVec 32 := 1#32
  let arg8 : BitVec 32 := Scf.iv c0_i32_184 c1_i32_186 k0_t4
  let c512_i32 : BitVec 32 := 512#32
  let v474 : BitVec 32 := Scalar.muli arg8 c512_i32
  let v475 : BitVec 32 := v474
  let v476 : Index := Scalar.indexCast v475
  ![384, v476.toNat]
def k0_off8 (k0_t4 : Fin k0_t4_loop.trips) : Fin 2 → Nat :=
  let c3 : Index := 3#32
  let c0_i32_184 : BitVec 32 := 0#32
  let c1_i32_186 : BitVec 32 := 1#32
  let arg8 : BitVec 32 := Scf.iv c0_i32_184 c1_i32_186 k0_t4
  let c512_i32 : BitVec 32 := 512#32
  let v474 : BitVec 32 := Scalar.muli arg8 c512_i32
  let v475 : BitVec 32 := v474
  let v480 : Index := Scalar.indexCast v475
  ![3, v480.toNat]
@[reducible] def k0_t5_loop : Scf.Loop 32 :=
  let c0_i32_188 : BitVec 32 := 0#32
  let c14_i32_189 : BitVec 32 := 14#32
  let v461 : BitVec 32 := Scalar.addi c0_i32_188 c14_i32_189
  let c1_i32_190 : BitVec 32 := 1#32
  ⟨c0_i32_188, v461, c1_i32_190⟩
def k0_mult5 (k0_t5 : Fin k0_t5_loop.trips) : BitVec 32 :=
  let c0_i32_188 : BitVec 32 := 0#32
  let c1_i32_190 : BitVec 32 := 1#32
  let arg8 : BitVec 32 := Scf.iv c0_i32_188 c1_i32_190 k0_t5
  let c512_i32 : BitVec 32 := 512#32
  let v474 : BitVec 32 := Scalar.muli arg8 c512_i32
  v474
def k0_off9 (k0_t5 : Fin k0_t5_loop.trips) : Fin 2 → Nat :=
  let c512_240 : Index := 512#32
  let c0_i32_188 : BitVec 32 := 0#32
  let c1_i32_190 : BitVec 32 := 1#32
  let arg8 : BitVec 32 := Scf.iv c0_i32_188 c1_i32_190 k0_t5
  let c512_i32 : BitVec 32 := 512#32
  let v474 : BitVec 32 := Scalar.muli arg8 c512_i32
  let v475 : BitVec 32 := v474
  let v476 : Index := Scalar.indexCast v475
  ![512, v476.toNat]
def k0_off10 (k0_t5 : Fin k0_t5_loop.trips) : Fin 2 → Nat :=
  let c4 : Index := 4#32
  let c0_i32_188 : BitVec 32 := 0#32
  let c1_i32_190 : BitVec 32 := 1#32
  let arg8 : BitVec 32 := Scf.iv c0_i32_188 c1_i32_190 k0_t5
  let c512_i32 : BitVec 32 := 512#32
  let v474 : BitVec 32 := Scalar.muli arg8 c512_i32
  let v475 : BitVec 32 := v474
  let v480 : Index := Scalar.indexCast v475
  ![4, v480.toNat]
@[reducible] def k0_t6_loop : Scf.Loop 32 :=
  let c0_i32_192 : BitVec 32 := 0#32
  let c14_i32_193 : BitVec 32 := 14#32
  let v462 : BitVec 32 := Scalar.addi c0_i32_192 c14_i32_193
  let c1_i32_194 : BitVec 32 := 1#32
  ⟨c0_i32_192, v462, c1_i32_194⟩
def k0_mult6 (k0_t6 : Fin k0_t6_loop.trips) : BitVec 32 :=
  let c0_i32_192 : BitVec 32 := 0#32
  let c1_i32_194 : BitVec 32 := 1#32
  let arg8 : BitVec 32 := Scf.iv c0_i32_192 c1_i32_194 k0_t6
  let c512_i32 : BitVec 32 := 512#32
  let v474 : BitVec 32 := Scalar.muli arg8 c512_i32
  v474
def k0_off11 (k0_t6 : Fin k0_t6_loop.trips) : Fin 2 → Nat :=
  let c640_240 : Index := 640#32
  let c0_i32_192 : BitVec 32 := 0#32
  let c1_i32_194 : BitVec 32 := 1#32
  let arg8 : BitVec 32 := Scf.iv c0_i32_192 c1_i32_194 k0_t6
  let c512_i32 : BitVec 32 := 512#32
  let v474 : BitVec 32 := Scalar.muli arg8 c512_i32
  let v475 : BitVec 32 := v474
  let v476 : Index := Scalar.indexCast v475
  ![640, v476.toNat]
def k0_off12 (k0_t6 : Fin k0_t6_loop.trips) : Fin 2 → Nat :=
  let c5 : Index := 5#32
  let c0_i32_192 : BitVec 32 := 0#32
  let c1_i32_194 : BitVec 32 := 1#32
  let arg8 : BitVec 32 := Scf.iv c0_i32_192 c1_i32_194 k0_t6
  let c512_i32 : BitVec 32 := 512#32
  let v474 : BitVec 32 := Scalar.muli arg8 c512_i32
  let v475 : BitVec 32 := v474
  let v480 : Index := Scalar.indexCast v475
  ![5, v480.toNat]
@[reducible] def k0_t7_loop : Scf.Loop 32 :=
  let c0_i32_196 : BitVec 32 := 0#32
  let c14_i32_197 : BitVec 32 := 14#32
  let v463 : BitVec 32 := Scalar.addi c0_i32_196 c14_i32_197
  let c1_i32_198 : BitVec 32 := 1#32
  ⟨c0_i32_196, v463, c1_i32_198⟩
def k0_mult7 (k0_t7 : Fin k0_t7_loop.trips) : BitVec 32 :=
  let c0_i32_196 : BitVec 32 := 0#32
  let c1_i32_198 : BitVec 32 := 1#32
  let arg8 : BitVec 32 := Scf.iv c0_i32_196 c1_i32_198 k0_t7
  let c512_i32 : BitVec 32 := 512#32
  let v474 : BitVec 32 := Scalar.muli arg8 c512_i32
  v474
def k0_off13 (k0_t7 : Fin k0_t7_loop.trips) : Fin 2 → Nat :=
  let c768_240 : Index := 768#32
  let c0_i32_196 : BitVec 32 := 0#32
  let c1_i32_198 : BitVec 32 := 1#32
  let arg8 : BitVec 32 := Scf.iv c0_i32_196 c1_i32_198 k0_t7
  let c512_i32 : BitVec 32 := 512#32
  let v474 : BitVec 32 := Scalar.muli arg8 c512_i32
  let v475 : BitVec 32 := v474
  let v476 : Index := Scalar.indexCast v475
  ![768, v476.toNat]
def k0_off14 (k0_t7 : Fin k0_t7_loop.trips) : Fin 2 → Nat :=
  let c6 : Index := 6#32
  let c0_i32_196 : BitVec 32 := 0#32
  let c1_i32_198 : BitVec 32 := 1#32
  let arg8 : BitVec 32 := Scf.iv c0_i32_196 c1_i32_198 k0_t7
  let c512_i32 : BitVec 32 := 512#32
  let v474 : BitVec 32 := Scalar.muli arg8 c512_i32
  let v475 : BitVec 32 := v474
  let v480 : Index := Scalar.indexCast v475
  ![6, v480.toNat]
@[reducible] def k0_t8_loop : Scf.Loop 32 :=
  let c0_i32_200 : BitVec 32 := 0#32
  let c14_i32_201 : BitVec 32 := 14#32
  let v464 : BitVec 32 := Scalar.addi c0_i32_200 c14_i32_201
  let c1_i32_202 : BitVec 32 := 1#32
  ⟨c0_i32_200, v464, c1_i32_202⟩
def k0_mult8 (k0_t8 : Fin k0_t8_loop.trips) : BitVec 32 :=
  let c0_i32_200 : BitVec 32 := 0#32
  let c1_i32_202 : BitVec 32 := 1#32
  let arg8 : BitVec 32 := Scf.iv c0_i32_200 c1_i32_202 k0_t8
  let c512_i32 : BitVec 32 := 512#32
  let v474 : BitVec 32 := Scalar.muli arg8 c512_i32
  v474
def k0_off15 (k0_t8 : Fin k0_t8_loop.trips) : Fin 2 → Nat :=
  let c896_240 : Index := 896#32
  let c0_i32_200 : BitVec 32 := 0#32
  let c1_i32_202 : BitVec 32 := 1#32
  let arg8 : BitVec 32 := Scf.iv c0_i32_200 c1_i32_202 k0_t8
  let c512_i32 : BitVec 32 := 512#32
  let v474 : BitVec 32 := Scalar.muli arg8 c512_i32
  let v475 : BitVec 32 := v474
  let v476 : Index := Scalar.indexCast v475
  ![896, v476.toNat]
def k0_off16 (k0_t8 : Fin k0_t8_loop.trips) : Fin 2 → Nat :=
  let c7 : Index := 7#32
  let c0_i32_200 : BitVec 32 := 0#32
  let c1_i32_202 : BitVec 32 := 1#32
  let arg8 : BitVec 32 := Scf.iv c0_i32_200 c1_i32_202 k0_t8
  let c512_i32 : BitVec 32 := 512#32
  let v474 : BitVec 32 := Scalar.muli arg8 c512_i32
  let v475 : BitVec 32 := v474
  let v480 : Index := Scalar.indexCast v475
  ![7, v480.toNat]
@[reducible] def k0_t9_loop : Scf.Loop 32 :=
  let c0_i32_204 : BitVec 32 := 0#32
  let c14_i32_205 : BitVec 32 := 14#32
  let v465 : BitVec 32 := Scalar.addi c0_i32_204 c14_i32_205
  let c1_i32_206 : BitVec 32 := 1#32
  ⟨c0_i32_204, v465, c1_i32_206⟩
def k0_mult9 (k0_t9 : Fin k0_t9_loop.trips) : BitVec 32 :=
  let c0_i32_204 : BitVec 32 := 0#32
  let c1_i32_206 : BitVec 32 := 1#32
  let arg8 : BitVec 32 := Scf.iv c0_i32_204 c1_i32_206 k0_t9
  let c512_i32 : BitVec 32 := 512#32
  let v474 : BitVec 32 := Scalar.muli arg8 c512_i32
  v474
def k0_off17 (k0_t9 : Fin k0_t9_loop.trips) : Fin 2 → Nat :=
  let c1024_240 : Index := 1024#32
  let c0_i32_204 : BitVec 32 := 0#32
  let c1_i32_206 : BitVec 32 := 1#32
  let arg8 : BitVec 32 := Scf.iv c0_i32_204 c1_i32_206 k0_t9
  let c512_i32 : BitVec 32 := 512#32
  let v474 : BitVec 32 := Scalar.muli arg8 c512_i32
  let v475 : BitVec 32 := v474
  let v476 : Index := Scalar.indexCast v475
  ![1024, v476.toNat]
def k0_off18 (k0_t9 : Fin k0_t9_loop.trips) : Fin 2 → Nat :=
  let c8 : Index := 8#32
  let c0_i32_204 : BitVec 32 := 0#32
  let c1_i32_206 : BitVec 32 := 1#32
  let arg8 : BitVec 32 := Scf.iv c0_i32_204 c1_i32_206 k0_t9
  let c512_i32 : BitVec 32 := 512#32
  let v474 : BitVec 32 := Scalar.muli arg8 c512_i32
  let v475 : BitVec 32 := v474
  let v480 : Index := Scalar.indexCast v475
  ![8, v480.toNat]
@[reducible] def k0_t10_loop : Scf.Loop 32 :=
  let c0_i32_208 : BitVec 32 := 0#32
  let c14_i32_209 : BitVec 32 := 14#32
  let v466 : BitVec 32 := Scalar.addi c0_i32_208 c14_i32_209
  let c1_i32_210 : BitVec 32 := 1#32
  ⟨c0_i32_208, v466, c1_i32_210⟩
def k0_mult10 (k0_t10 : Fin k0_t10_loop.trips) : BitVec 32 :=
  let c0_i32_208 : BitVec 32 := 0#32
  let c1_i32_210 : BitVec 32 := 1#32
  let arg8 : BitVec 32 := Scf.iv c0_i32_208 c1_i32_210 k0_t10
  let c512_i32 : BitVec 32 := 512#32
  let v474 : BitVec 32 := Scalar.muli arg8 c512_i32
  v474
def k0_off19 (k0_t10 : Fin k0_t10_loop.trips) : Fin 2 → Nat :=
  let c1152_240 : Index := 1152#32
  let c0_i32_208 : BitVec 32 := 0#32
  let c1_i32_210 : BitVec 32 := 1#32
  let arg8 : BitVec 32 := Scf.iv c0_i32_208 c1_i32_210 k0_t10
  let c512_i32 : BitVec 32 := 512#32
  let v474 : BitVec 32 := Scalar.muli arg8 c512_i32
  let v475 : BitVec 32 := v474
  let v476 : Index := Scalar.indexCast v475
  ![1152, v476.toNat]
def k0_off20 (k0_t10 : Fin k0_t10_loop.trips) : Fin 2 → Nat :=
  let c9 : Index := 9#32
  let c0_i32_208 : BitVec 32 := 0#32
  let c1_i32_210 : BitVec 32 := 1#32
  let arg8 : BitVec 32 := Scf.iv c0_i32_208 c1_i32_210 k0_t10
  let c512_i32 : BitVec 32 := 512#32
  let v474 : BitVec 32 := Scalar.muli arg8 c512_i32
  let v475 : BitVec 32 := v474
  let v480 : Index := Scalar.indexCast v475
  ![9, v480.toNat]
@[reducible] def k0_t11_loop : Scf.Loop 32 :=
  let c0_i32_212 : BitVec 32 := 0#32
  let c14_i32_213 : BitVec 32 := 14#32
  let v467 : BitVec 32 := Scalar.addi c0_i32_212 c14_i32_213
  let c1_i32_214 : BitVec 32 := 1#32
  ⟨c0_i32_212, v467, c1_i32_214⟩
def k0_mult11 (k0_t11 : Fin k0_t11_loop.trips) : BitVec 32 :=
  let c0_i32_212 : BitVec 32 := 0#32
  let c1_i32_214 : BitVec 32 := 1#32
  let arg8 : BitVec 32 := Scf.iv c0_i32_212 c1_i32_214 k0_t11
  let c512_i32 : BitVec 32 := 512#32
  let v474 : BitVec 32 := Scalar.muli arg8 c512_i32
  v474
def k0_off21 (k0_t11 : Fin k0_t11_loop.trips) : Fin 2 → Nat :=
  let c1280_240 : Index := 1280#32
  let c0_i32_212 : BitVec 32 := 0#32
  let c1_i32_214 : BitVec 32 := 1#32
  let arg8 : BitVec 32 := Scf.iv c0_i32_212 c1_i32_214 k0_t11
  let c512_i32 : BitVec 32 := 512#32
  let v474 : BitVec 32 := Scalar.muli arg8 c512_i32
  let v475 : BitVec 32 := v474
  let v476 : Index := Scalar.indexCast v475
  ![1280, v476.toNat]
def k0_off22 (k0_t11 : Fin k0_t11_loop.trips) : Fin 2 → Nat :=
  let c10 : Index := 10#32
  let c0_i32_212 : BitVec 32 := 0#32
  let c1_i32_214 : BitVec 32 := 1#32
  let arg8 : BitVec 32 := Scf.iv c0_i32_212 c1_i32_214 k0_t11
  let c512_i32 : BitVec 32 := 512#32
  let v474 : BitVec 32 := Scalar.muli arg8 c512_i32
  let v475 : BitVec 32 := v474
  let v480 : Index := Scalar.indexCast v475
  ![10, v480.toNat]
@[reducible] def k0_t12_loop : Scf.Loop 32 :=
  let c0_i32_216 : BitVec 32 := 0#32
  let c14_i32_217 : BitVec 32 := 14#32
  let v468 : BitVec 32 := Scalar.addi c0_i32_216 c14_i32_217
  let c1_i32_218 : BitVec 32 := 1#32
  ⟨c0_i32_216, v468, c1_i32_218⟩
def k0_mult12 (k0_t12 : Fin k0_t12_loop.trips) : BitVec 32 :=
  let c0_i32_216 : BitVec 32 := 0#32
  let c1_i32_218 : BitVec 32 := 1#32
  let arg8 : BitVec 32 := Scf.iv c0_i32_216 c1_i32_218 k0_t12
  let c512_i32 : BitVec 32 := 512#32
  let v474 : BitVec 32 := Scalar.muli arg8 c512_i32
  v474
def k0_off23 (k0_t12 : Fin k0_t12_loop.trips) : Fin 2 → Nat :=
  let c1408_240 : Index := 1408#32
  let c0_i32_216 : BitVec 32 := 0#32
  let c1_i32_218 : BitVec 32 := 1#32
  let arg8 : BitVec 32 := Scf.iv c0_i32_216 c1_i32_218 k0_t12
  let c512_i32 : BitVec 32 := 512#32
  let v474 : BitVec 32 := Scalar.muli arg8 c512_i32
  let v475 : BitVec 32 := v474
  let v476 : Index := Scalar.indexCast v475
  ![1408, v476.toNat]
def k0_off24 (k0_t12 : Fin k0_t12_loop.trips) : Fin 2 → Nat :=
  let c11 : Index := 11#32
  let c0_i32_216 : BitVec 32 := 0#32
  let c1_i32_218 : BitVec 32 := 1#32
  let arg8 : BitVec 32 := Scf.iv c0_i32_216 c1_i32_218 k0_t12
  let c512_i32 : BitVec 32 := 512#32
  let v474 : BitVec 32 := Scalar.muli arg8 c512_i32
  let v475 : BitVec 32 := v474
  let v480 : Index := Scalar.indexCast v475
  ![11, v480.toNat]
@[reducible] def k0_t13_loop : Scf.Loop 32 :=
  let c0_i32_220 : BitVec 32 := 0#32
  let c14_i32_221 : BitVec 32 := 14#32
  let v469 : BitVec 32 := Scalar.addi c0_i32_220 c14_i32_221
  let c1_i32_222 : BitVec 32 := 1#32
  ⟨c0_i32_220, v469, c1_i32_222⟩
def k0_mult13 (k0_t13 : Fin k0_t13_loop.trips) : BitVec 32 :=
  let c0_i32_220 : BitVec 32 := 0#32
  let c1_i32_222 : BitVec 32 := 1#32
  let arg8 : BitVec 32 := Scf.iv c0_i32_220 c1_i32_222 k0_t13
  let c512_i32 : BitVec 32 := 512#32
  let v474 : BitVec 32 := Scalar.muli arg8 c512_i32
  v474
def k0_off25 (k0_t13 : Fin k0_t13_loop.trips) : Fin 2 → Nat :=
  let c1536_240 : Index := 1536#32
  let c0_i32_220 : BitVec 32 := 0#32
  let c1_i32_222 : BitVec 32 := 1#32
  let arg8 : BitVec 32 := Scf.iv c0_i32_220 c1_i32_222 k0_t13
  let c512_i32 : BitVec 32 := 512#32
  let v474 : BitVec 32 := Scalar.muli arg8 c512_i32
  let v475 : BitVec 32 := v474
  let v476 : Index := Scalar.indexCast v475
  ![1536, v476.toNat]
def k0_off26 (k0_t13 : Fin k0_t13_loop.trips) : Fin 2 → Nat :=
  let c12 : Index := 12#32
  let c0_i32_220 : BitVec 32 := 0#32
  let c1_i32_222 : BitVec 32 := 1#32
  let arg8 : BitVec 32 := Scf.iv c0_i32_220 c1_i32_222 k0_t13
  let c512_i32 : BitVec 32 := 512#32
  let v474 : BitVec 32 := Scalar.muli arg8 c512_i32
  let v475 : BitVec 32 := v474
  let v480 : Index := Scalar.indexCast v475
  ![12, v480.toNat]
@[reducible] def k0_t14_loop : Scf.Loop 32 :=
  let c0_i32_224 : BitVec 32 := 0#32
  let c14_i32_225 : BitVec 32 := 14#32
  let v470 : BitVec 32 := Scalar.addi c0_i32_224 c14_i32_225
  let c1_i32_226 : BitVec 32 := 1#32
  ⟨c0_i32_224, v470, c1_i32_226⟩
def k0_mult14 (k0_t14 : Fin k0_t14_loop.trips) : BitVec 32 :=
  let c0_i32_224 : BitVec 32 := 0#32
  let c1_i32_226 : BitVec 32 := 1#32
  let arg8 : BitVec 32 := Scf.iv c0_i32_224 c1_i32_226 k0_t14
  let c512_i32 : BitVec 32 := 512#32
  let v474 : BitVec 32 := Scalar.muli arg8 c512_i32
  v474
def k0_off27 (k0_t14 : Fin k0_t14_loop.trips) : Fin 2 → Nat :=
  let c1664_240 : Index := 1664#32
  let c0_i32_224 : BitVec 32 := 0#32
  let c1_i32_226 : BitVec 32 := 1#32
  let arg8 : BitVec 32 := Scf.iv c0_i32_224 c1_i32_226 k0_t14
  let c512_i32 : BitVec 32 := 512#32
  let v474 : BitVec 32 := Scalar.muli arg8 c512_i32
  let v475 : BitVec 32 := v474
  let v476 : Index := Scalar.indexCast v475
  ![1664, v476.toNat]
def k0_off28 (k0_t14 : Fin k0_t14_loop.trips) : Fin 2 → Nat :=
  let c13 : Index := 13#32
  let c0_i32_224 : BitVec 32 := 0#32
  let c1_i32_226 : BitVec 32 := 1#32
  let arg8 : BitVec 32 := Scf.iv c0_i32_224 c1_i32_226 k0_t14
  let c512_i32 : BitVec 32 := 512#32
  let v474 : BitVec 32 := Scalar.muli arg8 c512_i32
  let v475 : BitVec 32 := v474
  let v480 : Index := Scalar.indexCast v475
  ![13, v480.toNat]
@[reducible] def k0_t15_loop : Scf.Loop 32 :=
  let c0_i32_228 : BitVec 32 := 0#32
  let c14_i32_229 : BitVec 32 := 14#32
  let v471 : BitVec 32 := Scalar.addi c0_i32_228 c14_i32_229
  let c1_i32_230 : BitVec 32 := 1#32
  ⟨c0_i32_228, v471, c1_i32_230⟩
def k0_mult15 (k0_t15 : Fin k0_t15_loop.trips) : BitVec 32 :=
  let c0_i32_228 : BitVec 32 := 0#32
  let c1_i32_230 : BitVec 32 := 1#32
  let arg8 : BitVec 32 := Scf.iv c0_i32_228 c1_i32_230 k0_t15
  let c512_i32 : BitVec 32 := 512#32
  let v474 : BitVec 32 := Scalar.muli arg8 c512_i32
  v474
def k0_off29 (k0_t15 : Fin k0_t15_loop.trips) : Fin 2 → Nat :=
  let c1792_240 : Index := 1792#32
  let c0_i32_228 : BitVec 32 := 0#32
  let c1_i32_230 : BitVec 32 := 1#32
  let arg8 : BitVec 32 := Scf.iv c0_i32_228 c1_i32_230 k0_t15
  let c512_i32 : BitVec 32 := 512#32
  let v474 : BitVec 32 := Scalar.muli arg8 c512_i32
  let v475 : BitVec 32 := v474
  let v476 : Index := Scalar.indexCast v475
  ![1792, v476.toNat]
def k0_off30 (k0_t15 : Fin k0_t15_loop.trips) : Fin 2 → Nat :=
  let c14 : Index := 14#32
  let c0_i32_228 : BitVec 32 := 0#32
  let c1_i32_230 : BitVec 32 := 1#32
  let arg8 : BitVec 32 := Scf.iv c0_i32_228 c1_i32_230 k0_t15
  let c512_i32 : BitVec 32 := 512#32
  let v474 : BitVec 32 := Scalar.muli arg8 c512_i32
  let v475 : BitVec 32 := v474
  let v480 : Index := Scalar.indexCast v475
  ![14, v480.toNat]
@[reducible] def k0_t16_loop : Scf.Loop 32 :=
  let c0_i32_232 : BitVec 32 := 0#32
  let c14_i32_233 : BitVec 32 := 14#32
  let v472 : BitVec 32 := Scalar.addi c0_i32_232 c14_i32_233
  let c1_i32_234 : BitVec 32 := 1#32
  ⟨c0_i32_232, v472, c1_i32_234⟩
def k0_mult16 (k0_t16 : Fin k0_t16_loop.trips) : BitVec 32 :=
  let c0_i32_232 : BitVec 32 := 0#32
  let c1_i32_234 : BitVec 32 := 1#32
  let arg8 : BitVec 32 := Scf.iv c0_i32_232 c1_i32_234 k0_t16
  let c512_i32 : BitVec 32 := 512#32
  let v474 : BitVec 32 := Scalar.muli arg8 c512_i32
  v474
def k0_off31 (k0_t16 : Fin k0_t16_loop.trips) : Fin 2 → Nat :=
  let c1920_240 : Index := 1920#32
  let c0_i32_232 : BitVec 32 := 0#32
  let c1_i32_234 : BitVec 32 := 1#32
  let arg8 : BitVec 32 := Scf.iv c0_i32_232 c1_i32_234 k0_t16
  let c512_i32 : BitVec 32 := 512#32
  let v474 : BitVec 32 := Scalar.muli arg8 c512_i32
  let v475 : BitVec 32 := v474
  let v476 : Index := Scalar.indexCast v475
  ![1920, v476.toNat]
def k0_off32 (k0_t16 : Fin k0_t16_loop.trips) : Fin 2 → Nat :=
  let c15 : Index := 15#32
  let c0_i32_232 : BitVec 32 := 0#32
  let c1_i32_234 : BitVec 32 := 1#32
  let arg8 : BitVec 32 := Scf.iv c0_i32_232 c1_i32_234 k0_t16
  let c512_i32 : BitVec 32 := 512#32
  let v474 : BitVec 32 := Scalar.muli arg8 c512_i32
  let v475 : BitVec 32 := v474
  let v480 : Index := Scalar.indexCast v475
  ![15, v480.toNat]
@[reducible] def k0_t17_loop : Scf.Loop 32 :=
  let c0_i32_236 : BitVec 32 := 0#32
  let c14_i32_237 : BitVec 32 := 14#32
  let v473 : BitVec 32 := Scalar.addi c0_i32_236 c14_i32_237
  let c1_i32_238 : BitVec 32 := 1#32
  ⟨c0_i32_236, v473, c1_i32_238⟩
def k0_mult17 (k0_t17 : Fin k0_t17_loop.trips) : BitVec 32 :=
  let c0_i32_236 : BitVec 32 := 0#32
  let c1_i32_238 : BitVec 32 := 1#32
  let arg8 : BitVec 32 := Scf.iv c0_i32_236 c1_i32_238 k0_t17
  let c512_i32 : BitVec 32 := 512#32
  let v474 : BitVec 32 := Scalar.muli arg8 c512_i32
  v474
def k0_off33 (k0_t17 : Fin k0_t17_loop.trips) : Fin 2 → Nat :=
  let c2048_240 : Index := 2048#32
  let c0_i32_236 : BitVec 32 := 0#32
  let c1_i32_238 : BitVec 32 := 1#32
  let arg8 : BitVec 32 := Scf.iv c0_i32_236 c1_i32_238 k0_t17
  let c512_i32 : BitVec 32 := 512#32
  let v474 : BitVec 32 := Scalar.muli arg8 c512_i32
  let v475 : BitVec 32 := v474
  let v476 : Index := Scalar.indexCast v475
  ![2048, v476.toNat]
def k0_off34 (k0_t17 : Fin k0_t17_loop.trips) : Fin 2 → Nat :=
  let c16 : Index := 16#32
  let c0_i32_236 : BitVec 32 := 0#32
  let c1_i32_238 : BitVec 32 := 1#32
  let arg8 : BitVec 32 := Scf.iv c0_i32_236 c1_i32_238 k0_t17
  let c512_i32 : BitVec 32 := 512#32
  let v474 : BitVec 32 := Scalar.muli arg8 c512_i32
  let v475 : BitVec 32 := v474
  let v480 : Index := Scalar.indexCast v475
  ![16, v480.toNat]
@[reducible] def k0_t18_loop : Scf.Loop 32 :=
  let c0_i32_171 : BitVec 32 := 0#32
  let c4_i32 : BitVec 32 := 4#32
  let v456 : BitVec 32 := Scalar.addi c0_i32_171 c4_i32
  let c1_i32 : BitVec 32 := 1#32
  ⟨c0_i32_171, v456, c1_i32⟩
def k0_mult18 (k0_t18 : Fin k0_t18_loop.trips) : BitVec 32 :=
  let c0_i32_171 : BitVec 32 := 0#32
  let c1_i32 : BitVec 32 := 1#32
  let arg8 : BitVec 32 := Scf.iv c0_i32_171 c1_i32 k0_t18
  let c528_i32 : BitVec 32 := 528#32
  let v457 : BitVec 32 := Scalar.muli arg8 c528_i32
  v457
def k0_off35 (k0_t18 : Fin k0_t18_loop.trips) : Fin 2 → Nat :=
  let c0_i32_171 : BitVec 32 := 0#32
  let c1_i32 : BitVec 32 := 1#32
  let arg8 : BitVec 32 := Scf.iv c0_i32_171 c1_i32 k0_t18
  let c528_i32 : BitVec 32 := 528#32
  let v457 : BitVec 32 := Scalar.muli arg8 c528_i32
  let v458 : BitVec 32 := v457
  let v459 : Index := Scalar.indexCast v458
  let c0_173 : Index := 0#32
  ![v459.toNat, 0]
def k0_off36 (k0_t18 : Fin k0_t18_loop.trips) : Fin 2 → Nat :=
  let c0_i32_171 : BitVec 32 := 0#32
  let c1_i32 : BitVec 32 := 1#32
  let arg8 : BitVec 32 := Scf.iv c0_i32_171 c1_i32 k0_t18
  let c528_i32 : BitVec 32 := 528#32
  let v457 : BitVec 32 := Scalar.muli arg8 c528_i32
  let v458 : BitVec 32 := v457
  let v464 : Index := Scalar.indexCast v458
  let c0_177 : Index := 0#32
  ![v464.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S56x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2112x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S17x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2112x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QkvRefIdeal.lean ====
abbrev S4096x7168 : Shape := ⟨2, ![4096, 7168]⟩
abbrev S56x4096 : Shape := ⟨2, ![56, 4096]⟩
abbrev S7168x2112 : Shape := ⟨2, ![7168, 2112]⟩
abbrev S56x17 : Shape := ⟨2, ![56, 17]⟩
abbrev S4096x56 : Shape := ⟨2, ![4096, 56]⟩
abbrev S4096x56x128 : Shape := ⟨3, ![4096, 56, 128]⟩
abbrev S56x128x17 : Shape := ⟨3, ![56, 128, 17]⟩
abbrev S7168x17 : Shape := ⟨2, ![7168, 17]⟩
abbrev S7168x17x128 : Shape := ⟨3, ![7168, 17, 128]⟩
abbrev S7168x2176 : Shape := ⟨2, ![7168, 2176]⟩
abbrev S2112x4096 : Shape := ⟨2, ![2112, 4096]⟩
abbrev S4096x2112 : Shape := ⟨2, ![4096, 2112]⟩

abbrev nBuf : Space → Nat
  | .hbm => 15
  | .vmem => 5
  | .smem => 0
  | _ => 0

abbrev bufTy : (tb : Table) → Fin (tcTables nBuf tb) → BufTy
  | .hbm, ⟨0, _⟩ => ⟨S4096x7168, .fp8e4m3⟩
  | .hbm, ⟨1, _⟩ => ⟨S56x4096, .f32⟩
  | .hbm, ⟨2, _⟩ => ⟨S7168x2112, .fp8e4m3⟩
  | .hbm, ⟨3, _⟩ => ⟨S56x17, .f32⟩
  | .hbm, ⟨4, _⟩ => ⟨S4096x56, .f32⟩
  | .hbm, ⟨5, _⟩ => ⟨S4096x56, .bf16⟩
  | .hbm, ⟨6, _⟩ => ⟨S4096x56x128, .bf16⟩
  | .hbm, ⟨7, _⟩ => ⟨S4096x7168, .bf16⟩
  | .hbm, ⟨8, _⟩ => ⟨S56x17, .bf16⟩
  | .hbm, ⟨9, _⟩ => ⟨S56x128x17, .bf16⟩
  | .hbm, ⟨10, _⟩ => ⟨S7168x17, .bf16⟩
  | .hbm, ⟨11, _⟩ => ⟨S7168x17x128, .bf16⟩
  | .hbm, ⟨12, _⟩ => ⟨S7168x2176, .bf16⟩
  | .hbm, ⟨13, _⟩ => ⟨S7168x2112, .bf16⟩
  | .hbm, ⟨14, _⟩ => ⟨S2112x4096, .bf16⟩
  | .local _ .vmem, ⟨0, _⟩ => ⟨S4096x7168, .fp8e4m3⟩
  | .local _ .vmem, ⟨1, _⟩ => ⟨S4096x7168, .bf16⟩
  | .local _ .vmem, ⟨2, _⟩ => ⟨S7168x2112, .fp8e4m3⟩
  | .local _ .vmem, ⟨3, _⟩ => ⟨S7168x2112, .bf16⟩
  | .local _ .vmem, ⟨4, _⟩ => ⟨S2112x4096, .bf16⟩
  | _, _ => ⟨S4096x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x2112 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x2112 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2112x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Bits.RunA.lean ====
/- The first grid point of the qkv call: its body runs to the end, and the pieces it stores into the widened-weights scratch. -/
module

public import proofs.«01_k».proof.Proof.Gen.Qkv.Frame.Runs

@[expose] public section

-- membership in a rectangle of production extents (`View.cover_of_tiled`): the elaborator's structural look
-- recurses once per coordinate of the long axes
set_option maxRecDepth 16384

noncomputable section

namespace Cert.Qkv.Bits

open Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2392000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4) at anything, handed back at some contents nothing names. -/
noncomputable def kernelRun0_A (c : Dev nD) (i : grid0.Coords) (arg1 : Memref sig .tc .vmem S256x7168 .fp8e4m3) (harg1 : arg1.IsWhole) (arg2 : Memref sig .tc .vmem S56x256 .f32) (harg2 : arg2.IsWhole) (arg3 : Memref sig .tc .vmem S2112x7168 .fp8e4m3) (harg3 : arg3.IsWhole) (arg4 : Memref sig .tc .vmem S17x7168 .f32) (harg4 : arg4.IsWhole) (arg5 : Memref sig .tc .vmem S2112x256 .bf16) (harg5 : arg5.IsWhole) (arg6 : Memref sig .tc .vmem S2112x7168 .bf16) (harg6 : arg6.IsWhole) (arg7 : Memref sig .tc .vmem S256x7168 .bf16) (harg7 : arg7.IsWhole) (hc0 : cond0_0 i)
    (x0 : Vec F S256x7168 .fp8e4m3) (x1 : Vec F S56x256 .f32) (x2 : Vec F S2112x7168 .fp8e4m3) (x3 : Vec F S17x7168 .f32) :
    { LS0 : List (View.Piece (Elt F) S2112x7168 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ f, arg6.view.loc (c : Thread nD τ) ↦[arg6.view.set]{fullShare} arg6.view.writes (Elt F) f LS0) ∗ (∃ d, owns (c : Thread nD τ) arg7 fullShare d)) -∗ K ⟨⟩))
          ⊢ wp frame (wpE (defs₀ (F := F)) Variants.none c none) E (cc0_dense2 i arg1 harg1 arg2 harg2 arg3 harg3 arg4 harg4 arg5 harg5 arg6 harg6 arg7 harg7) K } := by
  refine ⟨?_, fun E K => ?run⟩
  case run =>
    simp only [cc0_dense2_eq_skeleton]; unfold cc0_dense2_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [HS0]; · iexists _; iexact HS0
    iexists _, _; isplitr; swap; · iexact HS1
    ipureintro; rfl

end Cert.Qkv.Bits

end
-- ==== Proof.Bits.RunB.lean ====
/- Every later grid point of the qkv call: its body runs to the end and leaves the widened weights alone. -/
module

public import proofs.«01_k».proof.Proof.Bits.RunA

@[expose] public section

-- membership in a rectangle of production extents (`View.cover_of_tiled`): the elaborator's structural look
-- recurses once per coordinate of the long axes
set_option maxRecDepth 16384

noncomputable section

namespace Cert.Qkv.Bits

open Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1092000 in
/-- What the body's stores leave in each output's staging memref, as pieces (last first) IN CASE B (`scf.if` 0 not taken: points 1, 2, … 15: 15 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4) at anything, handed back at some contents nothing names. -/
noncomputable def kernelRun0_B (c : Dev nD) (i : grid0.Coords) (arg1 : Memref sig .tc .vmem S256x7168 .fp8e4m3) (harg1 : arg1.IsWhole) (arg2 : Memref sig .tc .vmem S56x256 .f32) (harg2 : arg2.IsWhole) (arg3 : Memref sig .tc .vmem S2112x7168 .fp8e4m3) (harg3 : arg3.IsWhole) (arg4 : Memref sig .tc .vmem S17x7168 .f32) (harg4 : arg4.IsWhole) (arg5 : Memref sig .tc .vmem S2112x256 .bf16) (harg5 : arg5.IsWhole) (arg6 : Memref sig .tc .vmem S2112x7168 .bf16) (harg6 : arg6.IsWhole) (arg7 : Memref sig .tc .vmem S256x7168 .bf16) (harg7 : arg7.IsWhole) (hc0 : ¬cond0_0 i)
    (x0 : Vec F S256x7168 .fp8e4m3) (x1 : Vec F S56x256 .f32) (x2 : Vec F S2112x7168 .fp8e4m3) (x3 : Vec F S17x7168 .f32) (xs0 : Vec F S2112x7168 .bf16) :
    { LS0 : List (View.Piece (Elt F) S2112x7168 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ (∃ d, owns (c : Thread nD τ) arg7 fullShare d)) -∗ K ⟨⟩))
          ⊢ wp frame (wpE (defs₀ (F := F)) Variants.none c none) E (cc0_dense2 i arg1 harg1 arg2 harg2 arg3 harg3 arg4 harg4 arg5 harg5 arg6 harg6 arg7 harg7) K } := by
  refine ⟨[], fun E K => ?run⟩
  case run =>
    simp only [cc0_dense2_eq_skeleton]; unfold cc0_dense2_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [HS0]
    · iexists _; isplitr; · ipureintro; exact harg6.read_unread _
      iexact HS0
    iexists _, _; isplitr; swap; · iexact HS1
    ipureintro; rfl

end Cert.Qkv.Bits

end
-- ==== Proof.Bits.Frame.lean ====
/- The frame of the qkv call at any element type: the body obligation, the run, and the arguments unchanged. Nothing is said
   of what the result holds (the value claim is about the idealised program). -/
module

public import proofs.«01_k».proof.Proof.Bits.RunB
public import Idealize.ShloMosaic.Lib.Claim

@[expose] public section

-- membership in a rectangle of production extents (`View.cover_of_tiled`): the elaborator's structural look
-- recurses once per coordinate of the long axes
set_option maxRecDepth 16384

noncomputable section

namespace Cert.Qkv.Bits

open Cert.Qkv.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Qkv`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-- Case A's pieces for scratch `arg6`, which the kernel carries between points, cover it: 238 pieces (stores and landed copies) of several sizes (`S128x512`, `S64x512`) tiling it when cut into blocks of `![64, 512]` (Lib/Ring.lean `Piece.tiledBy`). -/
theorem scover0_A_0 (c : Dev nD) (i : grid0.Coords) (arg1 : Memref sig .tc .vmem S256x7168 .fp8e4m3) (harg1 : arg1.IsWhole) (arg2 : Memref sig .tc .vmem S56x256 .f32) (harg2 : arg2.IsWhole) (arg3 : Memref sig .tc .vmem S2112x7168 .fp8e4m3) (harg3 : arg3.IsWhole) (arg4 : Memref sig .tc .vmem S17x7168 .f32) (harg4 : arg4.IsWhole) (arg5 : Memref sig .tc .vmem S2112x256 .bf16) (harg5 : arg5.IsWhole) (arg6 : Memref sig .tc .vmem S2112x7168 .bf16) (harg6 : arg6.IsWhole) (arg7 : Memref sig .tc .vmem S256x7168 .bf16) (harg7 : arg7.IsWhole) (hc0 : cond0_0 i)
    (x0 : Vec F S256x7168 .fp8e4m3) (x1 : Vec F S56x256 .f32) (x2 : Vec F S2112x7168 .fp8e4m3) (x3 : Vec F S17x7168 .f32) (y : S2112x7168.Idx) :
    ∃ pc ∈ (kernelRun0_A c i arg1 harg1 arg2 harg2 arg3 harg3 arg4 harg4 arg5 harg5 arg6 harg6 arg7 harg7 hc0 x0 x1 x2 x3).1, y ∈ pc.1.set :=
  View.cover_of_tiledBy (kernelRun0_A c i arg1 harg1 arg2 harg2 arg3 harg3 arg4 harg4 arg5 harg5 arg6 harg6 arg7 harg7 hc0 x0 x1 x2 x3).1 ![64, 512] (by sl_kernel_rfl) y

/-- What case A leaves in scratch `arg6`: its pieces read back over junk. -/
def sout0_A_0 (c : Dev nD) (i : grid0.Coords) (arg1 : Memref sig .tc .vmem S256x7168 .fp8e4m3) (harg1 : arg1.IsWhole) (arg2 : Memref sig .tc .vmem S56x256 .f32) (harg2 : arg2.IsWhole) (arg3 : Memref sig .tc .vmem S2112x7168 .fp8e4m3) (harg3 : arg3.IsWhole) (arg4 : Memref sig .tc .vmem S17x7168 .f32) (harg4 : arg4.IsWhole) (arg5 : Memref sig .tc .vmem S2112x256 .bf16) (harg5 : arg5.IsWhole) (arg6 : Memref sig .tc .vmem S2112x7168 .bf16) (harg6 : arg6.IsWhole) (arg7 : Memref sig .tc .vmem S256x7168 .bf16) (harg7 : arg7.IsWhole) (hc0 : cond0_0 i)
    (x0 : Vec F S256x7168 .fp8e4m3) (x1 : Vec F S56x256 .f32) (x2 : Vec F S2112x7168 .fp8e4m3) (x3 : Vec F S17x7168 .f32) : Vec F S2112x7168 .bf16 :=
  VS0_0.read (Elt F) (VS0_0.writes (Elt F) VS0_0.junk (kernelRun0_A c i arg1 harg1 arg2 harg2 arg3 harg3 arg4 harg4 arg5 harg5 arg6 harg6 arg7 harg7 hc0 x0 x1 x2 x3).1)

/-- Case B stores nothing into scratch `arg6`: it holds what the point before left. -/
def sout0_B_0 (c : Dev nD) (i : grid0.Coords) (arg1 : Memref sig .tc .vmem S256x7168 .fp8e4m3) (harg1 : arg1.IsWhole) (arg2 : Memref sig .tc .vmem S56x256 .f32) (harg2 : arg2.IsWhole) (arg3 : Memref sig .tc .vmem S2112x7168 .fp8e4m3) (harg3 : arg3.IsWhole) (arg4 : Memref sig .tc .vmem S17x7168 .f32) (harg4 : arg4.IsWhole) (arg5 : Memref sig .tc .vmem S2112x256 .bf16) (harg5 : arg5.IsWhole) (arg6 : Memref sig .tc .vmem S2112x7168 .bf16) (harg6 : arg6.IsWhole) (arg7 : Memref sig .tc .vmem S256x7168 .bf16) (harg7 : arg7.IsWhole) (hc0 : ¬cond0_0 i)
    (x0 : Vec F S256x7168 .fp8e4m3) (x1 : Vec F S56x256 .f32) (x2 : Vec F S2112x7168 .fp8e4m3) (x3 : Vec F S17x7168 .f32) (xs0 : Vec F S2112x7168 .bf16) : Vec F S2112x7168 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2112x7168 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 16 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- `outsAt0` at a point of case A: that case's contents. -/
theorem outsAt0_A (c : Dev nD) (t : Fin cfg0.N) (h0 : t.val % 16 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d)) ∗ (∃ r, prngReg c r)) := by
  cases n with
  | zero => exact absurd rfl hz
  | succ n => rfl

/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_A m c t h0]
      unfold sout0_A_0
      iintro ⟨⟨⟨HS0, HS1⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      iexact H4
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold sout0_B_0
      iintro ⟨⟨⟨HS0, HS1⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Qkv`'s statement (Defs.lean) at any `F` — Proof.lean cites it at `Bits`:
    `theorem Cert.Proof.claim : Cert.Claim := ⟨Cert.Qkv.Gen.facts, fun m ρ _ => Cert.Qkv.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Qkv.Bits

end
-- ==== Proof.Qkv.Tiles.lean ====
module

public import proofs.«01_k».proof.Proof.Gen.QkvIdeal.Frame.Runs
public import Idealize.ShloMosaic.PureOps.Ideal
public import Idealize.ShloMosaic.Lib.Pipeline.ValueKit
public import Idealize.ShloMosaic.Lib.Pipeline.ReadBack

@[expose] public section

set_option maxRecDepth 16384

noncomputable section

namespace Cert.QkvIdeal.Qkv

open Cert.QkvIdeal Cert.QkvIdeal.Gen
open Idealize.ShloMosaic Idealize.ShloMosaic.TcCoe Idealize.ShloMosaic.Tactic

/-! ## The arrays of one grid point, index by index -/

/-- The weights as the first grid point widens them: code times its 128 by 128 block's scale. -/
def WB (x2 : Vec Ideal S2112x7168 .fp8e4m3) (x3 : Vec Ideal S17x7168 .f32) : Vec Ideal S2112x7168 .bf16 :=
  fun y => (x2 y : EReal) * x3 (ix2 ⟨(y 0).val / 128, by have h : (y 0).val < 2112 := (y 0).isLt; omega⟩ (y 1))

/-- The activations a grid point widens: code times its run's scale. -/
def AB (x0 : Vec Ideal S256x7168 .fp8e4m3) (x1 : Vec Ideal S56x256 .f32) : Vec Ideal S256x7168 .bf16 :=
  fun y => (x0 y : EReal) * x1 (ix2 ⟨(y 1).val / 128, by have h : (y 1).val < 7168 := (y 1).isLt; omega⟩ (y 0))

/-- A grid point's block of the product, transposed: over all 7168 features, widened weight times widened activation. -/
def OUT (x0 : Vec Ideal S256x7168 .fp8e4m3) (x1 : Vec Ideal S56x256 .f32) (W : Vec Ideal S2112x7168 .bf16) : Vec Ideal S2112x256 .bf16 :=
  fun y => ∑ k : Fin 7168, (W (ix2 (y 0) k) : EReal) * AB x0 x1 (ix2 (y 1) k)

/-! ## What the body's stored payloads are at an index -/

theorem pay4_apply (v : Vec Ideal S128x512 .fp8e4m3) (s : Vec Ideal S1x512 .f32) (x : S128x512.Idx) :
    k0_pay4 v s x = (v x : EReal) * s (ix2 0 (x 1)) := by
  unfold k0_pay4
  pointwise

theorem pay20_apply (v : Vec Ideal S64x512 .fp8e4m3) (s : Vec Ideal S1x512 .f32) (x : S64x512.Idx) :
    k0_pay20 v s x = (v x : EReal) * s (ix2 0 (x 1)) := by
  unfold k0_pay20
  pointwise

theorem pay3_apply (a : Vec Ideal S528x7168 .bf16) (b : Vec Ideal S256x7168 .bf16) (x : S528x256.Idx) :
    k0_pay3 a b x = ∑ k : Fin 7168, (a (ix2 (x 0) k) : EReal) * b (ix2 (x 1) k) := by
  unfold k0_pay3
  pointwise

/-- One run of 128 activations times column `j` of the transposed scales. -/
def scaled (j : ℕ) (s : Vec Ideal S56x256 .f32) (v : Vec Ideal S256x128 .fp8e4m3) (hs : S256x128.Slices ![0, j] S256x1) : Vec Ideal S256x128 .bf16 :=
  shapeCast S256x128 (mulf (extf .bf16 v bitsLt_fp8e4m3_bf16)
    (broadcastTo S256x128 (extractStridedSlice S256x1 ![0, j] (k0_pay21 (F := Ideal) s) hs) broadcasts_S256x1_S256x128)) shapeCasts_S256x128_S256x128

theorem scaled_apply (s : Vec Ideal S56x256 .f32) (v : Vec Ideal S256x128 .fp8e4m3) (j : ℕ) (hj : j < 56) (hs : S256x128.Slices ![0, j] S256x1)
    (x : S256x128.Idx) : scaled j s v hs x = (v x : EReal) * s (ix2 ⟨j, hj⟩ (x 0)) := by
  unfold scaled k0_pay21
  pointwise
  rw [dif_pos hj]

/-! ## Stores that are blocks of one array -/

/-- Stores that are blocks of `G` and cover the buffer leave `G` in it. -/
theorem read_of_pieces {sig : RefSig} {κ : Kind} {sp : Space} {s : Shape} {e : EltTy} {Val : EltTy → Type} [∀ e, Nonempty (Val e)] (v : View sig κ sp s e)
    (f : v.ty.Contents Val) (G : s.Idx → Val e) (L : List (View.Piece Val s e)) (h : View.PiecesOf G L) (hc : ∀ y : s.Idx, ∃ p ∈ L, y ∈ p.1.set) :
    v.read Val (v.writes Val f L) = G := by
  funext y
  rw [View.read_writes_apply_eq_canon v f y L (hc y)]
  have := View.canon_append_of_piecesOf G [] L h y (hc y)
  rwa [List.append_nil] at this

theorem pieces_append {s : Shape} {e : EltTy} {Val : EltTy → Type} {G : s.Idx → Val e} : ∀ {L L' : List (View.Piece Val s e)},
    View.PiecesOf G L → View.PiecesOf G L' → View.PiecesOf G (L ++ L')
  | [], _, _, h' => h'
  | _ :: _, _, h, h' => ⟨h.1, pieces_append h.2 h'⟩

/-- A loop whose every trip stores blocks of `G` has stored blocks of `G` before any trip. -/
theorem pieces_rec {s : Shape} {e : EltTy} {Val : EltTy → Type} {G : s.Idx → Val e} {trips : ℕ} (T : Fin trips → List (View.Piece Val s e))
    {pb : ℕ → List (View.Piece Val s e)} (h0 : pb 0 = []) (hs : ∀ n, pb (n + 1) = if h : n < trips then T ⟨n, h⟩ ++ pb n else pb n)
    (hT : ∀ k, View.PiecesOf G (T k)) : ∀ n, View.PiecesOf G (pb n)
  | 0 => by rw [h0]; trivial
  | n + 1 => by
    rw [hs]
    split
    · exact pieces_append (hT _) (pieces_rec T h0 hs hT n)
    · exact pieces_rec T h0 hs hT n

/-! ## The widened tiles -/

theorem tile {rows : ℕ} {off off' : Fin 2 → ℕ} {inb : ∀ a, off a + (![rows, 512] : Fin 2 → ℕ) a ≤ S2112x7168.size a}
    {inb' : ∀ a, off' a + S1x512.size a ≤ S17x7168.size a} (x2 : Vec Ideal S2112x7168 .fp8e4m3) (x3 : Vec Ideal S17x7168 .f32) (b col : ℕ)
    (ho : off = ![128 * b, col]) (ho' : off' = ![b, col]) (hr : rows ≤ 128)
    (x : (Rect.unit (s := S2112x7168) off ![rows, 512] inb).shape.Idx) :
    (View.ld x2 (Rect.unit (s := S2112x7168) off ![rows, 512] inb) x : EReal) * View.ld x3 (Rect.unit (s := S17x7168) off' S1x512.size inb') (ix2 0 (x 1)) =
      WB x2 x3 ((Rect.unit (s := S2112x7168) off ![rows, 512] inb).emb x) := by
  subst ho ho'
  unfold WB
  have h0 : (x 0).val < rows := (x 0).isLt
  rw [View.ld_apply, View.ld_apply]
  congr 1
  refine congrArg x3 (funext fun a => Fin.ext ?_)
  match a with
  | ⟨0, _⟩ => show b + 1 * 0 = (128 * b + 1 * (x 0).val) / 128; omega
  | ⟨1, _⟩ => rfl

/-- A 128-row tile of one widening trip is a block of the widened weights. -/
theorem tile128 {off off' : Fin 2 → ℕ} {inb : ∀ a, off a + S128x512.size a ≤ S2112x7168.size a}
    {inb' : ∀ a, off' a + S1x512.size a ≤ S17x7168.size a} (arg3 : Memref sig .tc .vmem S2112x7168 .fp8e4m3) (harg3 : arg3.IsWhole)
    (arg4 : Memref sig .tc .vmem S17x7168 .f32) (harg4 : arg4.IsWhole) (x2 : Vec Ideal S2112x7168 .fp8e4m3) (x3 : Vec Ideal S17x7168 .f32) (b col : ℕ)
    (ho : off = ![128 * b, col]) (ho' : off' = ![b, col]) (x : (Rect.unit (s := S2112x7168) off S128x512.size inb).shape.Idx) :
    k0_pay4 (F := Ideal) (View.readAt (Elt Ideal) arg3.view (Rect.unit (s := S2112x7168) off S128x512.size inb).toLoadRect (harg3.unread x2))
      (View.readAt (Elt Ideal) arg4.view (Rect.unit (s := S17x7168) off' S1x512.size inb').toLoadRect (harg4.unread x3)) x =
      WB x2 x3 ((Rect.unit (s := S2112x7168) off S128x512.size inb).emb x) := by
  rw [pay4_apply]
  simp only [View.readAt_eq_ld, Memref.IsWhole.read_unread]
  exact tile (rows := 128) x2 x3 b col ho ho' le_rfl x

/-- The last 64 rows likewise. -/
theorem tile64 {off off' : Fin 2 → ℕ} {inb : ∀ a, off a + S64x512.size a ≤ S2112x7168.size a}
    {inb' : ∀ a, off' a + S1x512.size a ≤ S17x7168.size a} (arg3 : Memref sig .tc .vmem S2112x7168 .fp8e4m3) (harg3 : arg3.IsWhole)
    (arg4 : Memref sig .tc .vmem S17x7168 .f32) (harg4 : arg4.IsWhole) (x2 : Vec Ideal S2112x7168 .fp8e4m3) (x3 : Vec Ideal S17x7168 .f32) (b col : ℕ)
    (ho : off = ![128 * b, col]) (ho' : off' = ![b, col]) (x : (Rect.unit (s := S2112x7168) off S64x512.size inb).shape.Idx) :
    k0_pay20 (F := Ideal) (View.readAt (Elt Ideal) arg3.view (Rect.unit (s := S2112x7168) off S64x512.size inb).toLoadRect (harg3.unread x2))
      (View.readAt (Elt Ideal) arg4.view (Rect.unit (s := S17x7168) off' S1x512.size inb').toLoadRect (harg4.unread x3)) x =
      WB x2 x3 ((Rect.unit (s := S2112x7168) off S64x512.size inb).emb x) := by
  rw [pay20_apply]
  simp only [View.readAt_eq_ld, Memref.IsWhole.read_unread]
  exact tile (rows := 64) x2 x3 b col ho ho' (by decide) x

/-- A run of activations, scaled, is a block of the widened activations. -/
theorem run128 {col : ℕ} {inb : ∀ a, (![0, col] : Fin 2 → ℕ) a + S256x128.size a ≤ S256x7168.size a} (arg1 : Memref sig .tc .vmem S256x7168 .fp8e4m3) (harg1 : arg1.IsWhole)
    (arg2 : Memref sig .tc .vmem S56x256 .f32) (harg2 : arg2.IsWhole) (x0 : Vec Ideal S256x7168 .fp8e4m3) (x1 : Vec Ideal S56x256 .f32)
    {hs : S256x128.Slices ![0, col / 128] S256x1} {inb0 : ∀ a, (![0, 0] : Fin 2 → ℕ) a + S56x256.size a ≤ S56x256.size a}
    (x : (Rect.unit (s := S256x7168) ![0, col] S256x128.size inb).shape.Idx) (hd : col % 128 = 0) :
    AB x0 x1 ((Rect.unit (s := S256x7168) ![0, col] S256x128.size inb).emb x) =
      scaled (col / 128) (View.readAt (Elt Ideal) arg2.view (Rect.unit (s := S56x256) ![0, 0] S56x256.size inb0).toLoadRect (harg2.unread x1))
        (View.readAt (Elt Ideal) arg1.view (Rect.unit (s := S256x7168) ![0, col] S256x128.size inb).toLoadRect (harg1.unread x0)) hs x := by
  have h' : col + 128 ≤ 7168 := inb 1
  have hj : col / 128 < 56 := by omega
  have h1 : (x 1).val < 128 := (x 1).isLt
  rw [scaled_apply _ _ _ hj]
  simp only [View.readAt_eq_ld, Memref.IsWhole.read_unread]
  rw [View.ld_unit_lit _ _ (by decide), View.ld_apply]
  unfold AB
  congr 1
  refine congrArg x1 (funext fun a => Fin.ext ?_)
  match a with
  | ⟨0, _⟩ => show (col + 1 * (x 1).val) / 128 = col / 128; omega
  | ⟨1, _⟩ => show 0 + 1 * (x 0).val = (x 0).val; omega

/-- 528 rows of the product are a block of it. -/
theorem rows528 {off off' : Fin 2 → ℕ} {inb : ∀ a, off a + S528x7168.size a ≤ S2112x7168.size a} {inb' : ∀ a, off' a + S528x256.size a ≤ S2112x256.size a}
    {inb0 : ∀ a, (![0, 0] : Fin 2 → ℕ) a + S256x7168.size a ≤ S256x7168.size a}
    (arg6 : Memref sig .tc .vmem S2112x7168 .bf16) (arg7 : Memref sig .tc .vmem S256x7168 .bf16) (X6 : BufTy.Contents (Elt Ideal) arg6.view.ty)
    (X7 : BufTy.Contents (Elt Ideal) arg7.view.ty) (x0 : Vec Ideal S256x7168 .fp8e4m3) (x1 : Vec Ideal S56x256 .f32) (W : Vec Ideal S2112x7168 .bf16)
    (h6 : arg6.view.read (Elt Ideal) X6 = W) (h7 : arg7.view.read (Elt Ideal) X7 = AB x0 x1) (r : ℕ) (ho : off = ![r, 0]) (ho' : off' = ![r, 0])
    (x : (Rect.unit (s := S2112x256) off' S528x256.size inb').shape.Idx) :
    k0_pay3 (F := Ideal) (View.readAt (Elt Ideal) arg6.view (Rect.unit (s := S2112x7168) off S528x7168.size inb).toLoadRect X6)
      (View.readAt (Elt Ideal) arg7.view (Rect.unit (s := S256x7168) ![0, 0] S256x7168.size inb0).toLoadRect X7) x
      = OUT x0 x1 W ((Rect.unit (s := S2112x256) off' S528x256.size inb').emb x) := by
  subst ho ho'
  rw [pay3_apply]
  simp only [View.readAt_eq_ld, h6, h7]
  rw [View.ld_unit_lit _ _ (by decide)]
  unfold OUT
  refine Finset.sum_congr rfl fun k _ => ?_
  rw [View.ld_apply]
  congr 1
  · refine congrArg W (funext fun a => Fin.ext ?_)
    match a with
    | ⟨0, _⟩ => rfl
    | ⟨1, _⟩ => show 0 + 1 * k.val = k.val; omega
  · refine congrArg (AB x0 x1) (funext fun a => Fin.ext ?_)
    match a with
    | ⟨0, _⟩ => show (x 1).val = 0 + 1 * (x 1).val; omega
    | ⟨1, _⟩ => rfl

/-! ## The seventeen widening loops and the product's loop -/

section
variable (c : Dev nD) (i : grid0.Coords) (arg1 : Memref sig .tc .vmem S256x7168 .fp8e4m3) (harg1 : arg1.IsWhole) (arg2 : Memref sig .tc .vmem S56x256 .f32) (harg2 : arg2.IsWhole) (arg3 : Memref sig .tc .vmem S2112x7168 .fp8e4m3) (harg3 : arg3.IsWhole) (arg4 : Memref sig .tc .vmem S17x7168 .f32) (harg4 : arg4.IsWhole) (arg5 : Memref sig .tc .vmem S2112x256 .bf16) (harg5 : arg5.IsWhole) (arg6 : Memref sig .tc .vmem S2112x7168 .bf16) (harg6 : arg6.IsWhole) (arg7 : Memref sig .tc .vmem S256x7168 .bf16) (harg7 : arg7.IsWhole)
    (x0 : Vec Ideal S256x7168 .fp8e4m3) (x1 : Vec Ideal S56x256 .f32) (x2 : Vec Ideal S2112x7168 .fp8e4m3) (x3 : Vec Ideal S17x7168 .f32)

theorem widen1 (hc0 : cond0_0 i) (n : ℕ) : View.PiecesOf (WB x2 x3) (pb_k0_t1 (F := Ideal) Variants.none c none i arg1 harg1 arg2 harg2 arg3 harg3 arg4 harg4 arg5 harg5 arg6 harg6 arg7 harg7 hc0 (harg3.unread x2) (harg4.unread x3) n) :=
  pieces_rec (tripL_k0_t1 (F := Ideal) Variants.none c none i arg1 harg1 arg2 harg2 arg3 harg3 arg4 harg4 arg5 harg5 arg6 harg6 arg7 harg7 hc0 (harg3.unread x2) (harg4.unread x3))
    (pb_k0_t1.eq_1 ..) (fun n => by rw [pb_k0_t1.eq_2]; unfold pb_k0_t1Step; rfl)
    (fun k => by unfold tripL_k0_t1 trip_k0_t1; exact ⟨tile128 arg3 harg3 arg4 harg4 x2 x3 0 _
      ((by decide +kernel : ∀ k, k0_off1 k = ![128 * 0, 512 * k.val]) k) ((by decide +kernel : ∀ k, k0_off2 k = ![0, 512 * k.val]) k), trivial⟩) n

theorem widen2 (hc0 : cond0_0 i) (n : ℕ) : View.PiecesOf (WB x2 x3) (pb_k0_t2 (F := Ideal) Variants.none c none i arg1 harg1 arg2 harg2 arg3 harg3 arg4 harg4 arg5 harg5 arg6 harg6 arg7 harg7 hc0 (harg3.unread x2) (harg4.unread x3) n) :=
  pieces_rec (tripL_k0_t2 (F := Ideal) Variants.none c none i arg1 harg1 arg2 harg2 arg3 harg3 arg4 harg4 arg5 harg5 arg6 harg6 arg7 harg7 hc0 (harg3.unread x2) (harg4.unread x3))
    (pb_k0_t2.eq_1 ..) (fun n => by rw [pb_k0_t2.eq_2]; unfold pb_k0_t2Step; rfl)
    (fun k => by unfold tripL_k0_t2 trip_k0_t2; exact ⟨tile128 arg3 harg3 arg4 harg4 x2 x3 1 _
      ((by decide +kernel : ∀ k, k0_off3 k = ![128 * 1, 512 * k.val]) k) ((by decide +kernel : ∀ k, k0_off4 k = ![1, 512 * k.val]) k), trivial⟩) n

theorem widen3 (hc0 : cond0_0 i) (n : ℕ) : View.PiecesOf (WB x2 x3) (pb_k0_t3 (F := Ideal) Variants.none c none i arg1 harg1 arg2 harg2 arg3 harg3 arg4 harg4 arg5 harg5 arg6 harg6 arg7 harg7 hc0 (harg3.unread x2) (harg4.unread x3) n) :=
  pieces_rec (tripL_k0_t3 (F := Ideal) Variants.none c none i arg1 harg1 arg2 harg2 arg3 harg3 arg4 harg4 arg5 harg5 arg6 harg6 arg7 harg7 hc0 (harg3.unread x2) (harg4.unread x3))
    (pb_k0_t3.eq_1 ..) (fun n => by rw [pb_k0_t3.eq_2]; unfold pb_k0_t3Step; rfl)
    (fun k => by unfold tripL_k0_t3 trip_k0_t3; exact ⟨tile128 arg3 harg3 arg4 harg4 x2 x3 2 _
      ((by decide +kernel : ∀ k, k0_off5 k = ![128 * 2, 512 * k.val]) k) ((by decide +kernel : ∀ k, k0_off6 k = ![2, 512 * k.val]) k), trivial⟩) n

theorem widen4 (hc0 : cond0_0 i) (n : ℕ) : View.PiecesOf (WB x2 x3) (pb_k0_t4 (F := Ideal) Variants.none c none i arg1 harg1 arg2 harg2 arg3 harg3 arg4 harg4 arg5 harg5 arg6 harg6 arg7 harg7 hc0 (harg3.unread x2) (harg4.unread x3) n) :=
  pieces_rec (tripL_k0_t4 (F := Ideal) Variants.none c none i arg1 harg1 arg2 harg2 arg3 harg3 arg4 harg4 arg5 harg5 arg6 harg6 arg7 harg7 hc0 (harg3.unread x2) (harg4.unread x3))
    (pb_k0_t4.eq_1 ..) (fun n => by rw [pb_k0_t4.eq_2]; unfold pb_k0_t4Step; rfl)
    (fun k => by unfold tripL_k0_t4 trip_k0_t4; exact ⟨tile128 arg3 harg3 arg4 harg4 x2 x3 3 _
      ((by decide +kernel : ∀ k, k0_off7 k = ![128 * 3, 512 * k.val]) k) ((by decide +kernel : ∀ k, k0_off8 k = ![3, 512 * k.val]) k), trivial⟩) n

theorem widen5 (hc0 : cond0_0 i) (n : ℕ) : View.PiecesOf (WB x2 x3) (pb_k0_t5 (F := Ideal) Variants.none c none i arg1 harg1 arg2 harg2 arg3 harg3 arg4 harg4 arg5 harg5 arg6 harg6 arg7 harg7 hc0 (harg3.unread x2) (harg4.unread x3) n) :=
  pieces_rec (tripL_k0_t5 (F := Ideal) Variants.none c none i arg1 harg1 arg2 harg2 arg3 harg3 arg4 harg4 arg5 harg5 arg6 harg6 arg7 harg7 hc0 (harg3.unread x2) (harg4.unread x3))
    (pb_k0_t5.eq_1 ..) (fun n => by rw [pb_k0_t5.eq_2]; unfold pb_k0_t5Step; rfl)
    (fun k => by unfold tripL_k0_t5 trip_k0_t5; exact ⟨tile128 arg3 harg3 arg4 harg4 x2 x3 4 _
      ((by decide +kernel : ∀ k, k0_off9 k = ![128 * 4, 512 * k.val]) k) ((by decide +kernel : ∀ k, k0_off10 k = ![4, 512 * k.val]) k), trivial⟩) n

theorem widen6 (hc0 : cond0_0 i) (n : ℕ) : View.PiecesOf (WB x2 x3) (pb_k0_t6 (F := Ideal) Variants.none c none i arg1 harg1 arg2 harg2 arg3 harg3 arg4 harg4 arg5 harg5 arg6 harg6 arg7 harg7 hc0 (harg3.unread x2) (harg4.unread x3) n) :=
  pieces_rec (tripL_k0_t6 (F := Ideal) Variants.none c none i arg1 harg1 arg2 harg2 arg3 harg3 arg4 harg4 arg5 harg5 arg6 harg6 arg7 harg7 hc0 (harg3.unread x2) (harg4.unread x3))
    (pb_k0_t6.eq_1 ..) (fun n => by rw [pb_k0_t6.eq_2]; unfold pb_k0_t6Step; rfl)
    (fun k => by unfold tripL_k0_t6 trip_k0_t6; exact ⟨tile128 arg3 harg3 arg4 harg4 x2 x3 5 _
      ((by decide +kernel : ∀ k, k0_off11 k = ![128 * 5, 512 * k.val]) k) ((by decide +kernel : ∀ k, k0_off12 k = ![5, 512 * k.val]) k), trivial⟩) n

theorem widen7 (hc0 : cond0_0 i) (n : ℕ) : View.PiecesOf (WB x2 x3) (pb_k0_t7 (F := Ideal) Variants.none c none i arg1 harg1 arg2 harg2 arg3 harg3 arg4 harg4 arg5 harg5 arg6 harg6 arg7 harg7 hc0 (harg3.unread x2) (harg4.unread x3) n) :=
  pieces_rec (tripL_k0_t7 (F := Ideal) Variants.none c none i arg1 harg1 arg2 harg2 arg3 harg3 arg4 harg4 arg5 harg5 arg6 harg6 arg7 harg7 hc0 (harg3.unread x2) (harg4.unread x3))
    (pb_k0_t7.eq_1 ..) (fun n => by rw [pb_k0_t7.eq_2]; unfold pb_k0_t7Step; rfl)
    (fun k => by unfold tripL_k0_t7 trip_k0_t7; exact ⟨tile128 arg3 harg3 arg4 harg4 x2 x3 6 _
      ((by decide +kernel : ∀ k, k0_off13 k = ![128 * 6, 512 * k.val]) k) ((by decide +kernel : ∀ k, k0_off14 k = ![6, 512 * k.val]) k), trivial⟩) n

theorem widen8 (hc0 : cond0_0 i) (n : ℕ) : View.PiecesOf (WB x2 x3) (pb_k0_t8 (F := Ideal) Variants.none c none i arg1 harg1 arg2 harg2 arg3 harg3 arg4 harg4 arg5 harg5 arg6 harg6 arg7 harg7 hc0 (harg3.unread x2) (harg4.unread x3) n) :=
  pieces_rec (tripL_k0_t8 (F := Ideal) Variants.none c none i arg1 harg1 arg2 harg2 arg3 harg3 arg4 harg4 arg5 harg5 arg6 harg6 arg7 harg7 hc0 (harg3.unread x2) (harg4.unread x3))
    (pb_k0_t8.eq_1 ..) (fun n => by rw [pb_k0_t8.eq_2]; unfold pb_k0_t8Step; rfl)
    (fun k => by unfold tripL_k0_t8 trip_k0_t8; exact ⟨tile128 arg3 harg3 arg4 harg4 x2 x3 7 _
      ((by decide +kernel : ∀ k, k0_off15 k = ![128 * 7, 512 * k.val]) k) ((by decide +kernel : ∀ k, k0_off16 k = ![7, 512 * k.val]) k), trivial⟩) n

theorem widen9 (hc0 : cond0_0 i) (n : ℕ) : View.PiecesOf (WB x2 x3) (pb_k0_t9 (F := Ideal) Variants.none c none i arg1 harg1 arg2 harg2 arg3 harg3 arg4 harg4 arg5 harg5 arg6 harg6 arg7 harg7 hc0 (harg3.unread x2) (harg4.unread x3) n) :=
  pieces_rec (tripL_k0_t9 (F := Ideal) Variants.none c none i arg1 harg1 arg2 harg2 arg3 harg3 arg4 harg4 arg5 harg5 arg6 harg6 arg7 harg7 hc0 (harg3.unread x2) (harg4.unread x3))
    (pb_k0_t9.eq_1 ..) (fun n => by rw [pb_k0_t9.eq_2]; unfold pb_k0_t9Step; rfl)
    (fun k => by unfold tripL_k0_t9 trip_k0_t9; exact ⟨tile128 arg3 harg3 arg4 harg4 x2 x3 8 _
      ((by decide +kernel : ∀ k, k0_off17 k = ![128 * 8, 512 * k.val]) k) ((by decide +kernel : ∀ k, k0_off18 k = ![8, 512 * k.val]) k), trivial⟩) n

theorem widen10 (hc0 : cond0_0 i) (n : ℕ) : View.PiecesOf (WB x2 x3) (pb_k0_t10 (F := Ideal) Variants.none c none i arg1 harg1 arg2 harg2 arg3 harg3 arg4 harg4 arg5 harg5 arg6 harg6 arg7 harg7 hc0 (harg3.unread x2) (harg4.unread x3) n) :=
  pieces_rec (tripL_k0_t10 (F := Ideal) Variants.none c none i arg1 harg1 arg2 harg2 arg3 harg3 arg4 harg4 arg5 harg5 arg6 harg6 arg7 harg7 hc0 (harg3.unread x2) (harg4.unread x3))
    (pb_k0_t10.eq_1 ..) (fun n => by rw [pb_k0_t10.eq_2]; unfold pb_k0_t10Step; rfl)
    (fun k => by unfold tripL_k0_t10 trip_k0_t10; exact ⟨tile128 arg3 harg3 arg4 harg4 x2 x3 9 _
      ((by decide +kernel : ∀ k, k0_off19 k = ![128 * 9, 512 * k.val]) k) ((by decide +kernel : ∀ k, k0_off20 k = ![9, 512 * k.val]) k), trivial⟩) n

theorem widen11 (hc0 : cond0_0 i) (n : ℕ) : View.PiecesOf (WB x2 x3) (pb_k0_t11 (F := Ideal) Variants.none c none i arg1 harg1 arg2 harg2 arg3 harg3 arg4 harg4 arg5 harg5 arg6 harg6 arg7 harg7 hc0 (harg3.unread x2) (harg4.unread x3) n) :=
  pieces_rec (tripL_k0_t11 (F := Ideal) Variants.none c none i arg1 harg1 arg2 harg2 arg3 harg3 arg4 harg4 arg5 harg5 arg6 harg6 arg7 harg7 hc0 (harg3.unread x2) (harg4.unread x3))
    (pb_k0_t11.eq_1 ..) (fun n => by rw [pb_k0_t11.eq_2]; unfold pb_k0_t11Step; rfl)
    (fun k => by unfold tripL_k0_t11 trip_k0_t11; exact ⟨tile128 arg3 harg3 arg4 harg4 x2 x3 10 _
      ((by decide +kernel : ∀ k, k0_off21 k = ![128 * 10, 512 * k.val]) k) ((by decide +kernel : ∀ k, k0_off22 k = ![10, 512 * k.val]) k), trivial⟩) n

theorem widen12 (hc0 : cond0_0 i) (n : ℕ) : View.PiecesOf (WB x2 x3) (pb_k0_t12 (F := Ideal) Variants.none c none i arg1 harg1 arg2 harg2 arg3 harg3 arg4 harg4 arg5 harg5 arg6 harg6 arg7 harg7 hc0 (harg3.unread x2) (harg4.unread x3) n) :=
  pieces_rec (tripL_k0_t12 (F := Ideal) Variants.none c none i arg1 harg1 arg2 harg2 arg3 harg3 arg4 harg4 arg5 harg5 arg6 harg6 arg7 harg7 hc0 (harg3.unread x2) (harg4.unread x3))
    (pb_k0_t12.eq_1 ..) (fun n => by rw [pb_k0_t12.eq_2]; unfold pb_k0_t12Step; rfl)
    (fun k => by unfold tripL_k0_t12 trip_k0_t12; exact ⟨tile128 arg3 harg3 arg4 harg4 x2 x3 11 _
      ((by decide +kernel : ∀ k, k0_off23 k = ![128 * 11, 512 * k.val]) k) ((by decide +kernel : ∀ k, k0_off24 k = ![11, 512 * k.val]) k), trivial⟩) n

theorem widen13 (hc0 : cond0_0 i) (n : ℕ) : View.PiecesOf (WB x2 x3) (pb_k0_t13 (F := Ideal) Variants.none c none i arg1 harg1 arg2 harg2 arg3 harg3 arg4 harg4 arg5 harg5 arg6 harg6 arg7 harg7 hc0 (harg3.unread x2) (harg4.unread x3) n) :=
  pieces_rec (tripL_k0_t13 (F := Ideal) Variants.none c none i arg1 harg1 arg2 harg2 arg3 harg3 arg4 harg4 arg5 harg5 arg6 harg6 arg7 harg7 hc0 (harg3.unread x2) (harg4.unread x3))
    (pb_k0_t13.eq_1 ..) (fun n => by rw [pb_k0_t13.eq_2]; unfold pb_k0_t13Step; rfl)
    (fun k => by unfold tripL_k0_t13 trip_k0_t13; exact ⟨tile128 arg3 harg3 arg4 harg4 x2 x3 12 _
      ((by decide +kernel : ∀ k, k0_off25 k = ![128 * 12, 512 * k.val]) k) ((by decide +kernel : ∀ k, k0_off26 k = ![12, 512 * k.val]) k), trivial⟩) n

theorem widen14 (hc0 : cond0_0 i) (n : ℕ) : View.PiecesOf (WB x2 x3) (pb_k0_t14 (F := Ideal) Variants.none c none i arg1 harg1 arg2 harg2 arg3 harg3 arg4 harg4 arg5 harg5 arg6 harg6 arg7 harg7 hc0 (harg3.unread x2) (harg4.unread x3) n) :=
  pieces_rec (tripL_k0_t14 (F := Ideal) Variants.none c none i arg1 harg1 arg2 harg2 arg3 harg3 arg4 harg4 arg5 harg5 arg6 harg6 arg7 harg7 hc0 (harg3.unread x2) (harg4.unread x3))
    (pb_k0_t14.eq_1 ..) (fun n => by rw [pb_k0_t14.eq_2]; unfold pb_k0_t14Step; rfl)
    (fun k => by unfold tripL_k0_t14 trip_k0_t14; exact ⟨tile128 arg3 harg3 arg4 harg4 x2 x3 13 _
      ((by decide +kernel : ∀ k, k0_off27 k = ![128 * 13, 512 * k.val]) k) ((by decide +kernel : ∀ k, k0_off28 k = ![13, 512 * k.val]) k), trivial⟩) n

theorem widen15 (hc0 : cond0_0 i) (n : ℕ) : View.PiecesOf (WB x2 x3) (pb_k0_t15 (F := Ideal) Variants.none c none i arg1 harg1 arg2 harg2 arg3 harg3 arg4 harg4 arg5 harg5 arg6 harg6 arg7 harg7 hc0 (harg3.unread x2) (harg4.unread x3) n) :=
  pieces_rec (tripL_k0_t15 (F := Ideal) Variants.none c none i arg1 harg1 arg2 harg2 arg3 harg3 arg4 harg4 arg5 harg5 arg6 harg6 arg7 harg7 hc0 (harg3.unread x2) (harg4.unread x3))
    (pb_k0_t15.eq_1 ..) (fun n => by rw [pb_k0_t15.eq_2]; unfold pb_k0_t15Step; rfl)
    (fun k => by unfold tripL_k0_t15 trip_k0_t15; exact ⟨tile128 arg3 harg3 arg4 harg4 x2 x3 14 _
      ((by decide +kernel : ∀ k, k0_off29 k = ![128 * 14, 512 * k.val]) k) ((by decide +kernel : ∀ k, k0_off30 k = ![14, 512 * k.val]) k), trivial⟩) n

theorem widen16 (hc0 : cond0_0 i) (n : ℕ) : View.PiecesOf (WB x2 x3) (pb_k0_t16 (F := Ideal) Variants.none c none i arg1 harg1 arg2 harg2 arg3 harg3 arg4 harg4 arg5 harg5 arg6 harg6 arg7 harg7 hc0 (harg3.unread x2) (harg4.unread x3) n) :=
  pieces_rec (tripL_k0_t16 (F := Ideal) Variants.none c none i arg1 harg1 arg2 harg2 arg3 harg3 arg4 harg4 arg5 harg5 arg6 harg6 arg7 harg7 hc0 (harg3.unread x2) (harg4.unread x3))
    (pb_k0_t16.eq_1 ..) (fun n => by rw [pb_k0_t16.eq_2]; unfold pb_k0_t16Step; rfl)
    (fun k => by unfold tripL_k0_t16 trip_k0_t16; exact ⟨tile128 arg3 harg3 arg4 harg4 x2 x3 15 _
      ((by decide +kernel : ∀ k, k0_off31 k = ![128 * 15, 512 * k.val]) k) ((by decide +kernel : ∀ k, k0_off32 k = ![15, 512 * k.val]) k), trivial⟩) n

theorem widen17 (hc0 : cond0_0 i) (n : ℕ) : View.PiecesOf (WB x2 x3) (pb_k0_t17 (F := Ideal) Variants.none c none i arg1 harg1 arg2 harg2 arg3 harg3 arg4 harg4 arg5 harg5 arg6 harg6 arg7 harg7 hc0 (harg3.unread x2) (harg4.unread x3) n) :=
  pieces_rec (tripL_k0_t17 (F := Ideal) Variants.none c none i arg1 harg1 arg2 harg2 arg3 harg3 arg4 harg4 arg5 harg5 arg6 harg6 arg7 harg7 hc0 (harg3.unread x2) (harg4.unread x3))
    (pb_k0_t17.eq_1 ..) (fun n => by rw [pb_k0_t17.eq_2]; unfold pb_k0_t17Step; rfl)
    (fun k => by unfold tripL_k0_t17 trip_k0_t17; exact ⟨tile64 arg3 harg3 arg4 harg4 x2 x3 16 _
      ((by decide +kernel : ∀ k, k0_off33 k = ![128 * 16, 512 * k.val]) k) ((by decide +kernel : ∀ k, k0_off34 k = ![16, 512 * k.val]) k), trivial⟩) n

theorem product (W : Vec Ideal S2112x7168 .bf16) (X6 : BufTy.Contents (Elt Ideal) arg6.view.ty) (X7 : BufTy.Contents (Elt Ideal) arg7.view.ty)
    (h6 : arg6.view.read (Elt Ideal) X6 = W) (h7 : arg7.view.read (Elt Ideal) X7 = AB x0 x1) (n : ℕ) :
    View.PiecesOf (OUT x0 x1 W) (pb_k0_t18 (F := Ideal) Variants.none c none i arg1 harg1 arg2 harg2 arg3 harg3 arg4 harg4 arg5 harg5 arg6 harg6 arg7 harg7 X6 X7 n) :=
  pieces_rec (tripL_k0_t18 (F := Ideal) Variants.none c none i arg1 harg1 arg2 harg2 arg3 harg3 arg4 harg4 arg5 harg5 arg6 harg6 arg7 harg7 X6 X7)
    (pb_k0_t18.eq_1 ..) (fun n => by rw [pb_k0_t18.eq_2]; unfold pb_k0_t18Step; rfl)
    (fun k => by unfold tripL_k0_t18 trip_k0_t18; exact ⟨rows528 (inb' := k0_off36_inb k) arg6 arg7 X6 X7 x0 x1 W h6 h7 _
      ((by decide +kernel : ∀ k, k0_off35 k = ![528 * k.val, 0]) k) ((by decide +kernel : ∀ k, k0_off36 k = ![528 * k.val, 0]) k), trivial⟩) n

end

end Cert.QkvIdeal.Qkv

end
-- ==== Proof.Qkv.Body.lean ====
module

public import proofs.«01_k».proof.Proof.Qkv.Tiles
public import Idealize.ShloMosaic.PureOps.Ideal
public import Idealize.ShloMosaic.Lib.Pipeline.ValueKit
public import Idealize.ShloMosaic.Lib.Pipeline.ReadBack

@[expose] public section

set_option maxRecDepth 16384

noncomputable section

namespace Cert.QkvIdeal.Qkv

open Cert.QkvIdeal Cert.QkvIdeal.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

theorem run_A (c : Dev nD) (i : grid0.Coords) (arg1 : Memref sig .tc .vmem S256x7168 .fp8e4m3) (harg1 : arg1.IsWhole) (arg2 : Memref sig .tc .vmem S56x256 .f32) (harg2 : arg2.IsWhole) (arg3 : Memref sig .tc .vmem S2112x7168 .fp8e4m3) (harg3 : arg3.IsWhole) (arg4 : Memref sig .tc .vmem S17x7168 .f32) (harg4 : arg4.IsWhole) (arg5 : Memref sig .tc .vmem S2112x256 .bf16) (harg5 : arg5.IsWhole) (arg6 : Memref sig .tc .vmem S2112x7168 .bf16) (harg6 : arg6.IsWhole) (arg7 : Memref sig .tc .vmem S256x7168 .bf16) (harg7 : arg7.IsWhole) (hc0 : cond0_0 i)
    (x0 : Vec Ideal S256x7168 .fp8e4m3) (x1 : Vec Ideal S56x256 .f32) (x2 : Vec Ideal S2112x7168 .fp8e4m3) (x3 : Vec Ideal S17x7168 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (OUT x0 x1 (WB x2 x3)) ∗ owns (c : Thread nD τ) arg6 fullShare (WB x2 x3) ∗ (∃ d, owns (c : Thread nD τ) arg7 fullShare d)) -∗ K ⟨⟩))
      ⊢ wp frame (wpE (defs₀ (F := Ideal)) Variants.none c none) E (cc0_dense2 i arg1 harg1 arg2 harg2 arg3 harg3 arg4 harg4 arg5 harg5 arg6 harg6 arg7 harg7) K := by
  simp only [cc0_dense2_eq_skeleton]; unfold cc0_dense2_skel
  simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec (disch := first | sl_exact hc0)
  have h6 := read_of_pieces arg6.view fs0 (WB x2 x3) _ (pieces_append (widen17 c i arg1 harg1 arg2 harg2 arg3 harg3 arg4 harg4 arg5 harg5 arg6 harg6 arg7 harg7 x2 x3 hc0 (Scf.trips k0_t17_loop.lb k0_t17_loop.ub k0_t17_loop.st)) <| pieces_append (widen16 c i arg1 harg1 arg2 harg2 arg3 harg3 arg4 harg4 arg5 harg5 arg6 harg6 arg7 harg7 x2 x3 hc0 (Scf.trips k0_t16_loop.lb k0_t16_loop.ub k0_t16_loop.st)) <| pieces_append (widen15 c i arg1 harg1 arg2 harg2 arg3 harg3 arg4 harg4 arg5 harg5 arg6 harg6 arg7 harg7 x2 x3 hc0 (Scf.trips k0_t15_loop.lb k0_t15_loop.ub k0_t15_loop.st)) <| pieces_append (widen14 c i arg1 harg1 arg2 harg2 arg3 harg3 arg4 harg4 arg5 harg5 arg6 harg6 arg7 harg7 x2 x3 hc0 (Scf.trips k0_t14_loop.lb k0_t14_loop.ub k0_t14_loop.st)) <| pieces_append (widen13 c i arg1 harg1 arg2 harg2 arg3 harg3 arg4 harg4 arg5 harg5 arg6 harg6 arg7 harg7 x2 x3 hc0 (Scf.trips k0_t13_loop.lb k0_t13_loop.ub k0_t13_loop.st)) <| pieces_append (widen12 c i arg1 harg1 arg2 harg2 arg3 harg3 arg4 harg4 arg5 harg5 arg6 harg6 arg7 harg7 x2 x3 hc0 (Scf.trips k0_t12_loop.lb k0_t12_loop.ub k0_t12_loop.st)) <| pieces_append (widen11 c i arg1 harg1 arg2 harg2 arg3 harg3 arg4 harg4 arg5 harg5 arg6 harg6 arg7 harg7 x2 x3 hc0 (Scf.trips k0_t11_loop.lb k0_t11_loop.ub k0_t11_loop.st)) <| pieces_append (widen10 c i arg1 harg1 arg2 harg2 arg3 harg3 arg4 harg4 arg5 harg5 arg6 harg6 arg7 harg7 x2 x3 hc0 (Scf.trips k0_t10_loop.lb k0_t10_loop.ub k0_t10_loop.st)) <| pieces_append (widen9 c i arg1 harg1 arg2 harg2 arg3 harg3 arg4 harg4 arg5 harg5 arg6 harg6 arg7 harg7 x2 x3 hc0 (Scf.trips k0_t9_loop.lb k0_t9_loop.ub k0_t9_loop.st)) <| pieces_append (widen8 c i arg1 harg1 arg2 harg2 arg3 harg3 arg4 harg4 arg5 harg5 arg6 harg6 arg7 harg7 x2 x3 hc0 (Scf.trips k0_t8_loop.lb k0_t8_loop.ub k0_t8_loop.st)) <| pieces_append (widen7 c i arg1 harg1 arg2 harg2 arg3 harg3 arg4 harg4 arg5 harg5 arg6 harg6 arg7 harg7 x2 x3 hc0 (Scf.trips k0_t7_loop.lb k0_t7_loop.ub k0_t7_loop.st)) <| pieces_append (widen6 c i arg1 harg1 arg2 harg2 arg3 harg3 arg4 harg4 arg5 harg5 arg6 harg6 arg7 harg7 x2 x3 hc0 (Scf.trips k0_t6_loop.lb k0_t6_loop.ub k0_t6_loop.st)) <| pieces_append (widen5 c i arg1 harg1 arg2 harg2 arg3 harg3 arg4 harg4 arg5 harg5 arg6 harg6 arg7 harg7 x2 x3 hc0 (Scf.trips k0_t5_loop.lb k0_t5_loop.ub k0_t5_loop.st)) <| pieces_append (widen4 c i arg1 harg1 arg2 harg2 arg3 harg3 arg4 harg4 arg5 harg5 arg6 harg6 arg7 harg7 x2 x3 hc0 (Scf.trips k0_t4_loop.lb k0_t4_loop.ub k0_t4_loop.st)) <| pieces_append (widen3 c i arg1 harg1 arg2 harg2 arg3 harg3 arg4 harg4 arg5 harg5 arg6 harg6 arg7 harg7 x2 x3 hc0 (Scf.trips k0_t3_loop.lb k0_t3_loop.ub k0_t3_loop.st)) <| pieces_append (widen2 c i arg1 harg1 arg2 harg2 arg3 harg3 arg4 harg4 arg5 harg5 arg6 harg6 arg7 harg7 x2 x3 hc0 (Scf.trips k0_t2_loop.lb k0_t2_loop.ub k0_t2_loop.st)) <| widen1 c i arg1 harg1 arg2 harg2 arg3 harg3 arg4 harg4 arg5 harg5 arg6 harg6 arg7 harg7 x2 x3 hc0 (Scf.trips k0_t1_loop.lb k0_t1_loop.ub k0_t1_loop.st))
    (View.cover_of_tiledBy _ ![64, 512] (by sl_kernel_rfl))
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine read_of_pieces arg5.view _ _ _ (product c i arg1 harg1 arg2 harg2 arg3 harg3 arg4 harg4 arg5 harg5 arg6 harg6 arg7 harg7 x0 x1 _ _ _ h6 (read_of_pieces arg7.view _ _ _ ?_ ?_) _)
      (View.cover_of_tiledL _ S528x256.size (by sl_kernel_rfl))
    · sl_unfold_words
      simp only [k0_pay25, k0_pay26, k0_pay27, k0_pay42, k0_pay43, k0_pay68, k0_pay69, k0_pay70]
      repeat (first | exact trivial | refine ⟨fun x => (run128 arg1 harg1 arg2 harg2 x0 x1 x rfl).symm, ?_⟩)
    · exact View.cover_of_tiledL _ S256x128.size (by sl_kernel_rfl)
  isplitl [HS0]
  · iexists _; isplitr; swap; · iexact HS0
    ipureintro; exact h6
  iexists _, _; isplitr; swap; · iexact HS1
  ipureintro; rfl

theorem run_B (c : Dev nD) (i : grid0.Coords) (arg1 : Memref sig .tc .vmem S256x7168 .fp8e4m3) (harg1 : arg1.IsWhole) (arg2 : Memref sig .tc .vmem S56x256 .f32) (harg2 : arg2.IsWhole) (arg3 : Memref sig .tc .vmem S2112x7168 .fp8e4m3) (harg3 : arg3.IsWhole) (arg4 : Memref sig .tc .vmem S17x7168 .f32) (harg4 : arg4.IsWhole) (arg5 : Memref sig .tc .vmem S2112x256 .bf16) (harg5 : arg5.IsWhole) (arg6 : Memref sig .tc .vmem S2112x7168 .bf16) (harg6 : arg6.IsWhole) (arg7 : Memref sig .tc .vmem S256x7168 .bf16) (harg7 : arg7.IsWhole) (hc0 : ¬cond0_0 i)
    (x0 : Vec Ideal S256x7168 .fp8e4m3) (x1 : Vec Ideal S56x256 .f32) (x2 : Vec Ideal S2112x7168 .fp8e4m3) (x3 : Vec Ideal S17x7168 .f32) (W : Vec Ideal S2112x7168 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare W ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (OUT x0 x1 W) ∗ owns (c : Thread nD τ) arg6 fullShare W ∗ (∃ d, owns (c : Thread nD τ) arg7 fullShare d)) -∗ K ⟨⟩))
      ⊢ wp frame (wpE (defs₀ (F := Ideal)) Variants.none c none) E (cc0_dense2 i arg1 harg1 arg2 harg2 arg3 harg3 arg4 harg4 arg5 harg5 arg6 harg6 arg7 harg7) K := by
  simp only [cc0_dense2_eq_skeleton]; unfold cc0_dense2_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%ds1, %fs1, -, HS1⟩, Hk⟩
  obtain rfl := harg1.eq_unread hf0; obtain rfl := harg2.eq_unread hf1; obtain rfl := harg3.eq_unread hf2; obtain rfl := harg4.eq_unread hf3
  sl_exec (disch := first | sl_exact hc0)
  have h6 := hfs0
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    refine read_of_pieces arg5.view _ _ _ (product c i arg1 harg1 arg2 harg2 arg3 harg3 arg4 harg4 arg5 harg5 arg6 harg6 arg7 harg7 x0 x1 _ _ _ h6 (read_of_pieces arg7.view _ _ _ ?_ ?_) _)
      (View.cover_of_tiledL _ S528x256.size (by sl_kernel_rfl))
    · sl_unfold_words
      simp only [k0_pay25, k0_pay26, k0_pay27, k0_pay42, k0_pay43, k0_pay68, k0_pay69, k0_pay70]
      repeat (first | exact trivial | refine ⟨fun x => (run128 arg1 harg1 arg2 harg2 x0 x1 x rfl).symm, ?_⟩)
    · exact View.cover_of_tiledL _ S256x128.size (by sl_kernel_rfl)
  isplitl [HS0]
  · iexists _; isplitr; swap; · iexact HS0
    ipureintro; exact h6
  iexists _, _; isplitr; swap; · iexact HS1
  ipureintro; rfl

end Cert.QkvIdeal.Qkv

end
-- ==== Proof.Qkv.Frame.lean ====
module

public import proofs.«01_k».proof.Proof.Qkv.Body
public import Idealize.ShloMosaic.Lib.Claim

@[expose] public section

set_option maxRecDepth 16384

noncomputable section

namespace Cert.QkvIdeal.Qkv

open Cert.QkvIdeal Cert.QkvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The weights the first grid point widens, which every later point reads. -/
def weights (c : Dev nD) : Vec Ideal S2112x7168 .bf16 :=
  WB (iblk m c 2 ⟨0, lt_of_lt_of_eq (by decide) N_0.symm⟩) (iblk m c 3 ⟨0, lt_of_lt_of_eq (by decide) N_0.symm⟩)

/-- The invariant before position `n`: before the first point every scratch at anything; afterwards the first scratch at the
    widened weights, the second at anything, and the generator register at some state. -/
def PhiS (c : Dev nD) : (n : ℕ) → n ≤ cfg0.N → sProp 𝕄
  | 0, _ => Pipeline.ΦA spec0 c
  | n + 1, hn => iprop(iprop(owns (c : Thread nD τ) scM0_0 fullShare (weights m c) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the weights are widened. -/
theorem PhiS_succ (c : Dev nD) (n : ℕ) (hn : n < cfg0.N) :
    PhiS m c (n + 1) hn = iprop(iprop(owns (c : Thread nD τ) scM0_0 fullShare (weights m c) ∗ (∃ d, owns (c : Thread nD τ) scM0_1 fullShare d)) ∗ (∃ r, prngReg c r)) := rfl

/-- Before a point that is not the first: the weights are widened. -/
theorem PhiS_pos (c : Dev nD) (n : ℕ) (h : n ≤ cfg0.N) (hz : n ≠ 0) :
    PhiS m c n h = iprop(iprop(owns (c : Thread nD τ) scM0_0 fullShare (weights m c) ∗ (∃ d, owns (c : Thread nD τ) scM0_1 fullShare d)) ∗ (∃ r, prngReg c r)) := by
  cases n with
  | zero => exact absurd rfl hz
  | succ n => rfl

/-! ## The pipeline's proof data -/

/-- The proof data of the pipeline on core `c`: the arrays as the region finds them; after the body at point `t` each input's
    buffer at its block and the output's at the product `OUT`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => OUT (iblk m c 0 t) (iblk m c 1 t) (weights m c)
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = OUT (iblk m c 0 t) (iblk m c 1 t) (weights m c) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 3200000 in
/-- The body at any point: the first point runs the widening (`run_A`), every later one finds the weights widened (`run_B`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      have hw : WB (iblk m c 2 t) (iblk m c 3 t) = weights m c := by rw [show t = ⟨0, lt_of_lt_of_eq (by decide) N_0.symm⟩ from Fin.ext hz]; rfl
      iintro ⟨⟨⟨HS0, HS1⟩, Hg⟩, Ho, ⟨%d0, H0⟩, ⟨%d1, H1⟩, ⟨%d2, H2⟩, ⟨%d3, H3⟩, ⟨%d4, H4⟩⟩
      rw [← hw]
      iapply (run_A c (grid0.coords t) _ _ _ _ _ _ _ _ _ _ _ _ _ _ ((hcond0_0 t).mpr h0) (iblk m c 0 t) (iblk m c 1 t) (iblk m c 2 t) (iblk m c 3 t) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      iexact H4
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩⟩
      iapply (run_B c (grid0.coords t) _ _ _ _ _ _ _ _ _ _ _ _ _ _ (fun h => h0 ((hcond0_0 t).mp h)) (iblk m c 0 t) (iblk m c 1 t) (iblk m c 2 t) (iblk m c 3 t) (weights m c) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      iexact H4

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every weakly fair execution terminates, with every array of the pipeline at what the proof data says and every other
    unscoped buffer as the region found it. -/
theorem run_main : θ_run defs (onTc (τ := τ) (main (F := Ideal))) (s₀ m ρ) (Pipeline.FramePost cfgs (dats m) 0 (V m)) :=
  (θ_run defs _ _).mono (fun _ h => h.1) (run_main_quiescent m ρ)

/-- After the frame run, output window 4's array is `(dats m 0 c).arrAt 4 N`. -/
theorem post4 (r : PUnit × MemSt nD τ sig (Elt Ideal)) (h : Pipeline.FramePost cfgs (dats m) 0 (V m) r) (c : Dev nD) :
    r.2.mem ((c : Thread nD τ).loc main_v4) = (dats m 0 c).arrAt 4 cfg0.N :=
  (h c).1 4

/-- After the frame run, argument `main_arg0` is as launched: input window 0 stages it and never writes it back. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := Ideal))) ⟨m, fun _ => 0, ρ⟩ fun r => ∀ c : Dev nD,
      r.2.mem ((c : Thread nD τ).loc main_v4) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      kept_main_arg0 m r h c,
      kept_main_arg1 m r h c,
      kept_main_arg2 m r h c,
      kept_main_arg3 m r h c⟩)
    (run_main m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame with the counters. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.QkvIdeal.Qkv

end
-- ==== Proof.Qkv.Value.lean ====
module

public import proofs.«01_k».proof.Proof.Qkv.Frame
public import Idealize.ShloMosaic.Lib.Pointwise

@[expose] public section

set_option maxRecDepth 16384

noncomputable section

namespace Cert.QkvIdeal.Qkv

open Cert.QkvIdeal Cert.QkvIdeal.Gen
open Idealize.ShloMosaic Idealize.ShloMosaic.TcCoe Idealize.ShloMosaic.Tactic
open Idealize.ShloMosaic.Pipeline (Dat)

/-- The product the certificate is about, transposed: row `n` of the result is output feature `n`, column `t` is token `t`; codes times scales on both sides, summed over all 7168 features. -/
def QKV (a0 : Vec Ideal S4096x7168 .fp8e4m3) (a1 : Vec Ideal S56x4096 .f32) (a2 : Vec Ideal S7168x2112 .fp8e4m3) (a3 : Vec Ideal S56x17 .f32) : Vec Ideal S2112x4096 .bf16 :=
  fun i => ∑ k : Fin 7168, ((a2 (ix2 k (i 0)) : EReal) * a3 (ix2 ⟨k.val / 128, by have := k.isLt; omega⟩ ⟨(i 0).val / 128, by have h : (i 0).val < 2112 := (i 0).isLt; omega⟩)) *
    ((a0 (ix2 (i 1) k) : EReal) * a1 (ix2 ⟨k.val / 128, by have := k.isLt; omega⟩ (i 1)))

variable (m : (ℓ : Loc nD τ sig) → Buf (Elt Ideal) ℓ)

theorem V_codes (c : Dev nD) (y : S2112x7168.Idx) :
    (V m c main_v0 : Vec Ideal S2112x7168 .fp8e4m3) y = (m ((c : Thread nD τ).loc main_arg2) : Vec Ideal S7168x2112 .fp8e4m3) (ix2 (y 1) (y 0)) := by
  entry_read
  pointwise

theorem V_scales (c : Dev nD) (y : S17x7168.Idx) :
    (V m c main_v3 : Vec Ideal S17x7168 .f32) y =
      (m ((c : Thread nD τ).loc main_arg3) : Vec Ideal S56x17 .f32) (ix2 ⟨(y 1).val / 128, by have h : (y 1).val < 7168 := (y 1).isLt; omega⟩ (y 0)) := by
  entry_read
  pointwise

/-- Every window's block at a point: token block `t` of the activations, their scales and the result; the weights whole. -/
theorem idx : ∀ t : Fin cfg0.N, win0_0.index t = ![t.val, 0] ∧ win0_1.index t = ![0, t.val] ∧ win0_2.index t = ![0, 0] ∧ win0_3.index t = ![0, 0] ∧ win0_4.index t = ![0, t.val] :=
  (by decide +kernel : ∀ t : Fin grid0.N, _)

/-- The array the kernel's grid writes is the product. -/
theorem array_eq (c : Dev nD) : (dats m 0 c).arrAt 4 cfg0.N =
    QKV (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  unfold OUT QKV AB weights WB
  generalize (⟨0, lt_of_lt_of_eq (by decide) N_0.symm⟩ : Fin cfg0.N) = t0
  show (∑ k : Fin 7168, (_ : EReal)) = ∑ k : Fin 7168, (_ : EReal)
  refine Finset.sum_congr rfl fun k _ => ?_
  blk_simp [iblk]
  rw [V_main_arg0, V_main_arg1, V_codes, V_scales]
  have e := idx t
  have e0 := idx t0
  blk_point [e, e0]

end Cert.QkvIdeal.Qkv

end
-- ==== Proof.Qkv.RefValue.lean ====
module

public import Idealize.ShloMosaic.PureOps.Ideal
public import Idealize.ShloMosaic.Lib.Pipeline.ValueKit
public import Idealize.ShloMosaic.Lib.Claim
public import proofs.«01_k».proof.Proof.Gen.QkvRefIdeal.Value
public import Idealize.ShloMosaic.Lib.Pointwise

@[expose] public section

set_option maxRecDepth 16384

noncomputable section

namespace Cert.QkvRefIdeal.Qkv

open Cert.QkvRefIdeal Cert.QkvRefIdeal.Gen
open Idealize.ShloMosaic Idealize.ShloMosaic.TcCoe Idealize.ShloMosaic.Tactic
open Idealize.ShloMosaic.Pipeline (Dat)

variable (m : (ℓ : Loc nD τ sig) → Buf (Elt Ideal) ℓ)

theorem V_runs (c : Dev nD) (y : S4096x7168.Idx) :
    (V m c main_v3 : Vec Ideal S4096x7168 .bf16) y =
      (m ((c : Thread nD τ).loc main_arg1) : Vec Ideal S56x4096 .f32) (ix2 ⟨(y 1).val / 128, by have h : (y 1).val < 7168 := (y 1).isLt; omega⟩ (y 0)) := by
  entry_read
  pointwise

theorem V_tiles (c : Dev nD) (y : S7168x2112.Idx) :
    (V m c main_v9 : Vec Ideal S7168x2112 .bf16) y =
      (m ((c : Thread nD τ).loc main_arg3) : Vec Ideal S56x17 .f32) (ix2 ⟨(y 0).val / 128, by have h : (y 0).val < 7168 := (y 0).isLt; omega⟩ ⟨(y 1).val / 128, by have h : (y 1).val < 2112 := (y 1).isLt; omega⟩) := by
  entry_read
  pointwise

theorem idx : ∀ t : Fin cfg0.N, win0_0.index t = ![0, 0] ∧ win0_1.index t = ![0, 0] ∧ win0_2.index t = ![0, 0] ∧ win0_3.index t = ![0, 0] ∧ win0_4.index t = ![0, 0] :=
  (by decide +kernel : ∀ t : Fin grid0.N, _)

/-- The reference's product, transposed: codes times scales on both sides, summed over all 7168 features. -/
def QKV (a0 : Vec Ideal S4096x7168 .fp8e4m3) (a1 : Vec Ideal S56x4096 .f32) (a2 : Vec Ideal S7168x2112 .fp8e4m3) (a3 : Vec Ideal S56x17 .f32) : Vec Ideal S2112x4096 .bf16 :=
  fun i => ∑ k : Fin 7168, ((a0 (ix2 (i 1) k) : EReal) * a1 (ix2 ⟨k.val / 128, by have := k.isLt; omega⟩ (i 1))) *
    ((a2 (ix2 k (i 0)) : EReal) * a3 (ix2 ⟨k.val / 128, by have := k.isLt; omega⟩ ⟨(i 0).val / 128, by have h : (i 0).val < 2112 := (i 0).isLt; omega⟩))

theorem array_eq (c : Dev nD) : (dats m 0 c).arrAt 4 cfg0.N =
    QKV (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay1, QKV]
  show (∑ k : Fin 7168, (_ : EReal)) = ∑ k : Fin 7168, (_ : EReal)
  refine Finset.sum_congr rfl fun k _ => ?_
  blk_simp [iblk]
  rw [V_main_arg0, V_main_arg2, V_runs, V_tiles]
  have e := idx t
  blk_point [e]

end Cert.QkvRefIdeal.Qkv

end
-- ==== Proof.NormBits.RunA.lean ====
/- The first grid point of the dense1 call: its body runs to the end, and the pieces it stores into the widened-weights scratch. -/
module

public import proofs.«01_k».proof.Proof.Gen.Norm.Frame.Runs

@[expose] public section

-- membership in a rectangle of production extents (`View.cover_of_tiled`): the elaborator's structural look
-- recurses once per coordinate of the long axes
set_option maxRecDepth 16384

noncomputable section

namespace Cert.Norm.Bits

open Cert.Norm.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3128000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9) at anything, handed back at some contents nothing names. -/
noncomputable def kernelRun0_A (c : Dev nD) (i : grid0.Coords) (arg1 : Memref sig .tc .vmem S128x7168 .bf16) (harg1 : arg1.IsWhole) (arg2 : Memref sig .tc .vmem S128x7168 .f32) (harg2 : arg2.IsWhole) (arg3 : Memref sig .tc .vmem S128x2048 .fp8e4m3) (harg3 : arg3.IsWhole) (arg4 : Memref sig .tc .vmem S16x128 .f32) (harg4 : arg4.IsWhole) (arg5 : Memref sig .tc .vmem S2048x7168 .fp8e4m3) (harg5 : arg5.IsWhole) (arg6 : Memref sig .tc .vmem S16x7168 .f32) (harg6 : arg6.IsWhole) (arg7 : Memref sig .tc .vmem S1x7168 .f32) (harg7 : arg7.IsWhole) (arg8 : Memref sig .tc .vmem S128x7168 .bf16) (harg8 : arg8.IsWhole) (arg9 : Memref sig .tc .vmem S128x7168 .fp8e4m3) (harg9 : arg9.IsWhole) (arg10 : Memref sig .tc .vmem S56x128 .f32) (harg10 : arg10.IsWhole) (arg11 : Memref sig .tc .vmem S2048x7168 .bf16) (harg11 : arg11.IsWhole) (arg12 : Memref sig .tc .vmem S128x7168 .f32) (harg12 : arg12.IsWhole) (hc0 : cond0_0 i)
    (x0 : Vec F S128x7168 .bf16) (x1 : Vec F S128x7168 .f32) (x2 : Vec F S128x2048 .fp8e4m3) (x3 : Vec F S16x128 .f32) (x4 : Vec F S2048x7168 .fp8e4m3) (x5 : Vec F S16x7168 .f32) (x6 : Vec F S1x7168 .f32) :
    { LS0 : List (View.Piece (Elt F) S2048x7168 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ f, arg11.view.loc (c : Thread nD τ) ↦[arg11.view.set]{fullShare} arg11.view.writes (Elt F) f LS0) ∗ (∃ d, owns (c : Thread nD τ) arg12 fullShare d)) -∗ K ⟨⟩))
          ⊢ wp frame (wpE (defs₀ (F := F)) Variants.none c none) E (cc0_dense1 i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0_dense1_eq_skeleton]; unfold cc0_dense1_skel
    simp only [k0_part90_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]; · iexists _; iexact HS0
    iexists _, _; isplitr; swap; · iexact HS1
    ipureintro; rfl

end Cert.Norm.Bits

end
-- ==== Proof.NormBits.RunB.lean ====
/- A later grid point of the dense1 call: its body runs to the end on the weights the first point left. -/
module

public import proofs.«01_k».proof.Proof.NormBits.RunA

@[expose] public section

-- membership in a rectangle of production extents (`View.cover_of_tiled`): the elaborator's structural look
-- recurses once per coordinate of the long axes
set_option maxRecDepth 16384

noncomputable section

namespace Cert.Norm.Bits

open Cert.Norm.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3052000 in
/-- What the body's stores leave in each output's staging memref, as pieces (last first) IN CASE B (`scf.if` 0 not taken: points 1, 2, … 31: 31 of 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7, 8, 9) at anything, handed back at some contents nothing names. -/
noncomputable def kernelRun0_B (c : Dev nD) (i : grid0.Coords) (arg1 : Memref sig .tc .vmem S128x7168 .bf16) (harg1 : arg1.IsWhole) (arg2 : Memref sig .tc .vmem S128x7168 .f32) (harg2 : arg2.IsWhole) (arg3 : Memref sig .tc .vmem S128x2048 .fp8e4m3) (harg3 : arg3.IsWhole) (arg4 : Memref sig .tc .vmem S16x128 .f32) (harg4 : arg4.IsWhole) (arg5 : Memref sig .tc .vmem S2048x7168 .fp8e4m3) (harg5 : arg5.IsWhole) (arg6 : Memref sig .tc .vmem S16x7168 .f32) (harg6 : arg6.IsWhole) (arg7 : Memref sig .tc .vmem S1x7168 .f32) (harg7 : arg7.IsWhole) (arg8 : Memref sig .tc .vmem S128x7168 .bf16) (harg8 : arg8.IsWhole) (arg9 : Memref sig .tc .vmem S128x7168 .fp8e4m3) (harg9 : arg9.IsWhole) (arg10 : Memref sig .tc .vmem S56x128 .f32) (harg10 : arg10.IsWhole) (arg11 : Memref sig .tc .vmem S2048x7168 .bf16) (harg11 : arg11.IsWhole) (arg12 : Memref sig .tc .vmem S128x7168 .f32) (harg12 : arg12.IsWhole) (hc0 : ¬cond0_0 i)
    (x0 : Vec F S128x7168 .bf16) (x1 : Vec F S128x7168 .f32) (x2 : Vec F S128x2048 .fp8e4m3) (x3 : Vec F S16x128 .f32) (x4 : Vec F S2048x7168 .fp8e4m3) (x5 : Vec F S16x7168 .f32) (x6 : Vec F S1x7168 .f32) (xs0 : Vec F S2048x7168 .bf16) :
    { LS0 : List (View.Piece (Elt F) S2048x7168 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d)) -∗ K ⟨⟩))
          ⊢ wp frame (wpE (defs₀ (F := F)) Variants.none c none) E (cc0_dense1 i arg1 harg1 arg2 harg2 arg3 harg3 arg4 harg4 arg5 harg5 arg6 harg6 arg7 harg7 arg8 harg8 arg9 harg9 arg10 harg10 arg11 harg11 arg12 harg12) K } := by
  refine ⟨[], fun E K => ?run⟩
  case run =>
    simp only [cc0_dense1_eq_skeleton]; unfold cc0_dense1_skel
    simp only [k0_part90_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _; isplitr; · ipureintro; exact harg11.read_unread _
      iexact HS0
    iexists _, _; isplitr; swap; · iexact HS1
    ipureintro; rfl

end Cert.Norm.Bits

end
-- ==== Proof.NormBits.Frame.lean ====
/- The dense1 call keeps its arguments, at the bits: every run reaches the end with the argument arrays as they were. -/
module

public import proofs.«01_k».proof.Proof.NormBits.RunB
public import Idealize.ShloMosaic.Lib.Claim

@[expose] public section

-- membership in a rectangle of production extents (`View.cover_of_tiled`): the elaborator's structural look
-- recurses once per coordinate of the long axes
set_option maxRecDepth 16384

noncomputable section

namespace Cert.Norm.Bits

open Cert.Norm.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Norm`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h
/-- Case A's pieces for scratch `arg11`, which the kernel carries between points, cover it: 16 pieces of `S128x7168` tiling it (Lib/Ring.lean `Piece.tiledL`). -/
theorem scover0_A_0 (c : Dev nD) (i : grid0.Coords) (arg1 : Memref sig .tc .vmem S128x7168 .bf16) (harg1 : arg1.IsWhole) (arg2 : Memref sig .tc .vmem S128x7168 .f32) (harg2 : arg2.IsWhole) (arg3 : Memref sig .tc .vmem S128x2048 .fp8e4m3) (harg3 : arg3.IsWhole) (arg4 : Memref sig .tc .vmem S16x128 .f32) (harg4 : arg4.IsWhole) (arg5 : Memref sig .tc .vmem S2048x7168 .fp8e4m3) (harg5 : arg5.IsWhole) (arg6 : Memref sig .tc .vmem S16x7168 .f32) (harg6 : arg6.IsWhole) (arg7 : Memref sig .tc .vmem S1x7168 .f32) (harg7 : arg7.IsWhole) (arg8 : Memref sig .tc .vmem S128x7168 .bf16) (harg8 : arg8.IsWhole) (arg9 : Memref sig .tc .vmem S128x7168 .fp8e4m3) (harg9 : arg9.IsWhole) (arg10 : Memref sig .tc .vmem S56x128 .f32) (harg10 : arg10.IsWhole) (arg11 : Memref sig .tc .vmem S2048x7168 .bf16) (harg11 : arg11.IsWhole) (arg12 : Memref sig .tc .vmem S128x7168 .f32) (harg12 : arg12.IsWhole) (hc0 : cond0_0 i)
    (x0 : Vec F S128x7168 .bf16) (x1 : Vec F S128x7168 .f32) (x2 : Vec F S128x2048 .fp8e4m3) (x3 : Vec F S16x128 .f32) (x4 : Vec F S2048x7168 .fp8e4m3) (x5 : Vec F S16x7168 .f32) (x6 : Vec F S1x7168 .f32) (y : S2048x7168.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1 S128x7168.size (by sl_kernel_rfl) y

/-- What case A leaves in scratch `arg11`: its pieces read back over junk. -/
def sout0_A_0 (c : Dev nD) (i : grid0.Coords) (arg1 : Memref sig .tc .vmem S128x7168 .bf16) (harg1 : arg1.IsWhole) (arg2 : Memref sig .tc .vmem S128x7168 .f32) (harg2 : arg2.IsWhole) (arg3 : Memref sig .tc .vmem S128x2048 .fp8e4m3) (harg3 : arg3.IsWhole) (arg4 : Memref sig .tc .vmem S16x128 .f32) (harg4 : arg4.IsWhole) (arg5 : Memref sig .tc .vmem S2048x7168 .fp8e4m3) (harg5 : arg5.IsWhole) (arg6 : Memref sig .tc .vmem S16x7168 .f32) (harg6 : arg6.IsWhole) (arg7 : Memref sig .tc .vmem S1x7168 .f32) (harg7 : arg7.IsWhole) (arg8 : Memref sig .tc .vmem S128x7168 .bf16) (harg8 : arg8.IsWhole) (arg9 : Memref sig .tc .vmem S128x7168 .fp8e4m3) (harg9 : arg9.IsWhole) (arg10 : Memref sig .tc .vmem S56x128 .f32) (harg10 : arg10.IsWhole) (arg11 : Memref sig .tc .vmem S2048x7168 .bf16) (harg11 : arg11.IsWhole) (arg12 : Memref sig .tc .vmem S128x7168 .f32) (harg12 : arg12.IsWhole) (hc0 : cond0_0 i)
    (x0 : Vec F S128x7168 .bf16) (x1 : Vec F S128x7168 .f32) (x2 : Vec F S128x2048 .fp8e4m3) (x3 : Vec F S16x128 .f32) (x4 : Vec F S2048x7168 .fp8e4m3) (x5 : Vec F S16x7168 .f32) (x6 : Vec F S1x7168 .f32) : Vec F S2048x7168 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1)

/-- Case B stores nothing into scratch `arg11`: it holds what the point before left. -/
def sout0_B_0 (c : Dev nD) (i : grid0.Coords) (arg1 : Memref sig .tc .vmem S128x7168 .bf16) (harg1 : arg1.IsWhole) (arg2 : Memref sig .tc .vmem S128x7168 .f32) (harg2 : arg2.IsWhole) (arg3 : Memref sig .tc .vmem S128x2048 .fp8e4m3) (harg3 : arg3.IsWhole) (arg4 : Memref sig .tc .vmem S16x128 .f32) (harg4 : arg4.IsWhole) (arg5 : Memref sig .tc .vmem S2048x7168 .fp8e4m3) (harg5 : arg5.IsWhole) (arg6 : Memref sig .tc .vmem S16x7168 .f32) (harg6 : arg6.IsWhole) (arg7 : Memref sig .tc .vmem S1x7168 .f32) (harg7 : arg7.IsWhole) (arg8 : Memref sig .tc .vmem S128x7168 .bf16) (harg8 : arg8.IsWhole) (arg9 : Memref sig .tc .vmem S128x7168 .fp8e4m3) (harg9 : arg9.IsWhole) (arg10 : Memref sig .tc .vmem S56x128 .f32) (harg10 : arg10.IsWhole) (arg11 : Memref sig .tc .vmem S2048x7168 .bf16) (harg11 : arg11.IsWhole) (arg12 : Memref sig .tc .vmem S128x7168 .f32) (harg12 : arg12.IsWhole) (hc0 : ¬cond0_0 i)
    (x0 : Vec F S128x7168 .bf16) (x1 : Vec F S128x7168 .f32) (x2 : Vec F S128x2048 .fp8e4m3) (x3 : Vec F S16x128 .f32) (x4 : Vec F S2048x7168 .fp8e4m3) (x5 : Vec F S16x7168 .f32) (x6 : Vec F S1x7168 .f32) (xs0 : Vec F S2048x7168 .bf16) : Vec F S2048x7168 .bf16 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2048x7168 .bf16
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 32 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))

/-- `outsAt0` at a point of case A: that case's contents. -/
theorem outsAt0_A (c : Dev nD) (t : Fin cfg0.N) (h0 : t.val % 32 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 32 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d)) ∗ (∃ r, prngReg c r)) := by
  cases n with
  | zero => exact absurd rfl hz
  | succ n => rfl

/-! ## The pipeline's proof data -/

/-- The output windows this certificate FORGETS (7, 8, 9): nothing reads what the kernel leaves in them, so nothing
    of it is named (Lib/Pipeline/Dat.lean `Dat.toRForget`). -/
def forgets0 : Fin 10 → Bool := fun w => w.val == 7 || w.val == 8 || w.val == 9

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      unfold sout0_A_0
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold sout0_B_0
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- The frame: every run ends with the argument arrays as they were, at any float interpretation. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Norm.Bits

end
-- ==== Proof.Norm.Tiles.lean ====
/- What the dense1 body's loop and stores leave, as functions of the arguments. -/
module

public import proofs.«01_k».proof.Proof.Gen.NormIdeal.Frame.Runs
public import Idealize.ShloMosaic.PureOps.Ideal
public import Idealize.ShloMosaic.Lib.Pipeline.ValueKit
public import Idealize.ShloMosaic.Lib.Pipeline.ReadBack

@[expose] public section

set_option maxRecDepth 16384

noncomputable section

namespace Cert.NormIdeal.Norm

open Cert.NormIdeal Cert.NormIdeal.Gen
open Idealize.ShloMosaic Idealize.ShloMosaic.TcCoe Idealize.ShloMosaic.Tactic

/-! ## The arrays of one grid point, index by index -/

/-- The weights as the first grid point widens them: code times its 128 by 128 block's scale. -/
def WB (x4 : Vec Ideal S2048x7168 .fp8e4m3) (x5 : Vec Ideal S16x7168 .f32) : Vec Ideal S2048x7168 .bf16 :=
  fun y => (x4 y : EReal) * x5 (ix2 ⟨(y 0).val / 128, by have h : (y 0).val < 2048 := (y 0).isLt; omega⟩ (y 1))

/-- The hidden activations a grid point widens: code times its run's scale. -/
def HT (x2 : Vec Ideal S128x2048 .fp8e4m3) (x3 : Vec Ideal S16x128 .f32) : Vec Ideal S128x2048 .bf16 :=
  fun y => (x2 y : EReal) * x3 (ix2 ⟨(y 1).val / 128, by have h : (y 1).val < 2048 := (y 1).isLt; omega⟩ (y 0))

/-- The residual stream after the shared and the routed experts. -/
def X1 (x0 : Vec Ideal S128x7168 .bf16) (x1 : Vec Ideal S128x7168 .f32) (H : Vec Ideal S128x2048 .bf16) (W : Vec Ideal S2048x7168 .bf16) :
    Vec Ideal S128x7168 .f32 :=
  fun y => ((x0 y : EReal) + ∑ k : Fin 2048, (H (ix2 (y 0) k) : EReal) * W (ix2 k (y 1))) + x1 y

/-- The same as the first result stores it. -/
def XO (x0 : Vec Ideal S128x7168 .bf16) (x1 : Vec Ideal S128x7168 .f32) (H : Vec Ideal S128x2048 .bf16) (W : Vec Ideal S2048x7168 .bf16) :
    Vec Ideal S128x7168 .bf16 := fun y => (X1 x0 x1 H W y : EReal)

/-- One over a row's root mean square. -/
def INV (X : Vec Ideal S128x7168 .f32) : FVec Ideal S128x1 .f32 :=
  fun y => Ideal.div (Ideal.ofBits .f32 0x3F800000#32)
    (Ideal.sqrt ((∑ k : Fin 7168, (X (ix2 (y 0) k) : EReal) * X (ix2 (y 0) k)) * ((1 / 7168 : ℝ) : EReal) + Ideal.ofBits .f32 0x358637BD#32))

/-- The normalised rows times the gain. -/
def NV (X : Vec Ideal S128x7168 .f32) (g : Vec Ideal S1x7168 .f32) : Vec Ideal S128x7168 .f32 :=
  fun y => ((X y : EReal) * INV X (ix2 (y 0) 0)) * g (ix2 0 (y 1))

/-- The `j`-th run of 128 columns. -/
def runOf (Z : Vec Ideal S128x7168 .f32) (j : Fin 56) : FVec Ideal S128x128 .f32 :=
  fun y => Z (ix2 (y 0) ⟨128 * j.val + (y 1).val, by have h : (y 1).val < 128 := (y 1).isLt; omega⟩)

/-! ## The vector terms the body computes, as it computes them -/

/-- A run normalised: entries times the row's factor times the gain. -/
def vt (inv : FVec Ideal S128x1 .f32) (x : Vec Ideal S128x128 .f32) (g : Vec Ideal S1x128 .f32) : FVec Ideal S128x128 .f32 :=
  mulf (mulf x (broadcastTo S128x128 inv broadcasts_S128x1_S128x128))
    (broadcastTo S128x128 (shapeCast S1x128 g shapeCasts_S1x128_S1x128) broadcasts_S1x128_S128x128)

/-- A run's largest magnitude over 448. -/
def am (v : FVec Ideal S128x128 .f32) : FVec Ideal S128x1 .f32 :=
  mulf (shapeCast S128x1 (multiReduction .maximumf [1] S128 (absf v) 0xFF800000#32 reduces_S128x128_S128 (.inl rfl) rfl) shapeCasts_S128_S128x1)
    (broadcast S128x1 (Scalar.ofBits .f32 0x3B124925#32))

/-- The scale's exponent: how many of the 256 powers lie at or below, re-biased. -/
def ex (a : FVec Ideal S128x1 .f32) : IVec S128x1 32 :=
  select (cmpf .oeq a (broadcast S128x1 (Scalar.ofBits .f32 0x00000000#32))) (broadcast S128x1 0#32)
    (subi (subi (shapeCast S128x1 (multiReductionI .add [1] S128 (extui 32 (cmpf .oge (broadcastTo S128x256 a broadcasts_S128x1_S128x256)
      (bitcastToFloat .f32 (shli (iota .tc S128x256 32 [1] iota_S128x256_d1_w32) (broadcast S128x256 23#32)))) natLt_1_32) 0#32 reduces_S128x256_S128 rfl)
      shapeCasts_S128_S128x1) (broadcast S128x1 1#32)) (broadcast S128x1 126#32))

/-- The float whose exponent field holds `e + 127`. -/
def p2 (e : IVec S128x1 32) : FVec Ideal S128x1 .f32 :=
  bitcastToFloat .f32 (shli (addi e (broadcast S128x1 127#32)) (broadcast S128x1 23#32))

/-- A run's codes. -/
def ct (v : FVec Ideal S128x128 .f32) (e : IVec S128x1 32) : FVec Ideal S128x128 .fp8e4m3 :=
  truncf .fp8e4m3 (minimumf (broadcast S128x128 (Scalar.ofBits .f32 0x43E00000#32)) (maximumf (broadcast S128x128 (Scalar.ofBits .f32 0xC3E00000#32))
    (mulf v (broadcastTo S128x128 (p2 (subi (broadcast S128x1 0#32) e)) broadcasts_S128x1_S128x128)))) bitsLt_fp8e4m3_f32

/-- Column `j` of the scales replaced. -/
def es (j : BitVec 32) (e : IVec S128x1 32) (acc : FVec Ideal S128x128 .f32) : FVec Ideal S128x128 .f32 :=
  select (cmpi .eq (iota .tc S128x128 32 [1] iota_S128x128_d1_w32) (broadcast S128x128 j))
    (broadcastTo S128x128 (shapeCast S128x1 (p2 e) shapeCasts_S128x1_S128x1) broadcasts_S128x1_S128x128) acc

/-- The codes of a grid point's rows. -/
def CODES (Z : Vec Ideal S128x7168 .f32) : Vec Ideal S128x7168 .fp8e4m3 :=
  fun y => ct (runOf Z ⟨(y 1).val / 128, by have h : (y 1).val < 7168 := (y 1).isLt; omega⟩)
    (ex (am (runOf Z ⟨(y 1).val / 128, by have h : (y 1).val < 7168 := (y 1).isLt; omega⟩))) (ix2 (y 0) ⟨(y 1).val % 128, Nat.mod_lt _ (by decide)⟩)

/-- The scales of a grid point's rows, one row per run. -/
def SC (Z : Vec Ideal S128x7168 .f32) : Vec Ideal S56x128 .f32 :=
  fun y => p2 (ex (am (runOf Z (y 0)))) (ix2 (y 1) 0)

/-- The widened hidden activations, sixteen runs side by side. -/
def hc (v3 : Vec Ideal S16x128 .f32) (v7 : Vec Ideal S128x2048 .fp8e4m3) : FVec Ideal S128x2048 .bf16 :=
  k0_pay16 (k0_pay2 v3) (k0_pay3 v7) (k0_pay4 v3 v7) (k0_pay5 v3 v7) (k0_pay6 v3 v7) (k0_pay7 v3 v7) (k0_pay8 v3 v7) (k0_pay9 v3 v7)
    (k0_pay10 v3 v7) (k0_pay11 v3 v7) (k0_pay12 v3 v7) (k0_pay13 v3 v7) (k0_pay14 v7) (k0_pay15 v3)

/-- 256 columns of the residual stream. -/
def xt (h : FVec Ideal S128x2048 .bf16) (w : Vec Ideal S2048x256 .bf16) (x : Vec Ideal S128x256 .bf16) (r : Vec Ideal S128x256 .f32) : FVec Ideal S128x256 .f32 :=
  addf (addf (extf .f32 x bitsLt_bf16_f32) (matmul (φ₂ := .bf16) dot_S128x2048_S2048x256_S128x256_1_0_0_1_n_n none h w (constant S128x256 .f32 0x00000000#32))) r

/-- The squares of 256 columns added onto 128 lanes. -/
def sq (acc : FVec Ideal S128x128 .f32) (v : FVec Ideal S128x256 .f32) : FVec Ideal S128x128 .f32 :=
  addf (addf acc (mulf (extractStridedSlice S128x128 ![0, 0] v slices_S128x256_o0_0_S128x128) (extractStridedSlice S128x128 ![0, 0] v slices_S128x256_o0_0_S128x128)))
    (mulf (extractStridedSlice S128x128 ![0, 128] v slices_S128x256_o0_128_S128x128) (extractStridedSlice S128x128 ![0, 128] v slices_S128x256_o0_128_S128x128))

/-- The row factor from the summed squares. -/
def nv (acc : FVec Ideal S128x128 .f32) : FVec Ideal S128x1 .f32 :=
  divf (broadcast S128x1 (Scalar.ofBits .f32 0x3F800000#32)) (sqrt (addf (mulf
    (shapeCast S128x1 (multiReduction .add [1] S128 acc 0x00000000#32 reduces_S128x128_S128 (.inl rfl) rfl) shapeCasts_S128_S128x1)
    (broadcast S128x1 (Named.named κ "inv_d" 0x39124925#32))) (broadcast S128x1 (Scalar.ofBits .f32 0x358637BD#32))))

/-! ## Reading them at an index -/

theorem pay1_apply (v : Vec Ideal S128x7168 .fp8e4m3) (s : Vec Ideal S1x7168 .f32) (x : S128x7168.Idx) :
    k0_pay1 v s x = (v x : EReal) * s (ix2 0 (x 1)) := by
  unfold k0_pay1
  pointwise

theorem xt_apply (h : FVec Ideal S128x2048 .bf16) (w : Vec Ideal S2048x256 .bf16) (x : Vec Ideal S128x256 .bf16) (r : Vec Ideal S128x256 .f32) (y : S128x256.Idx) :
    xt h w x r y = ((x y : EReal) + ∑ k : Fin 2048, (h (ix2 (y 0) k) : EReal) * w (ix2 k (y 1))) + r y := by
  unfold xt
  pointwise

theorem vt_apply (inv : FVec Ideal S128x1 .f32) (x : Vec Ideal S128x128 .f32) (g : Vec Ideal S1x128 .f32) (y : S128x128.Idx) :
    vt inv x g y = ((x y : EReal) * inv (ix2 (y 0) 0)) * g (ix2 0 (y 1)) := by
  unfold vt
  pointwise

theorem sq_apply (acc : FVec Ideal S128x128 .f32) (v : FVec Ideal S128x256 .f32) (y0 : Fin 128) (y1 : Fin 128) :
    sq acc v (ix2 y0 y1) = ((acc (ix2 y0 y1) : EReal) + v (ix2 y0 ⟨y1.val, by omega⟩) * v (ix2 y0 ⟨y1.val, by omega⟩))
      + v (ix2 y0 ⟨128 + y1.val, by omega⟩) * v (ix2 y0 ⟨128 + y1.val, by omega⟩) := by
  unfold sq
  pointwise

theorem nv_apply (acc : FVec Ideal S128x128 .f32) (y : S128x1.Idx) :
    nv acc y = Ideal.div (Ideal.ofBits .f32 0x3F800000#32)
      (Ideal.sqrt ((∑ k : Fin 128, (acc (ix2 (y 0) k) : EReal)) * ((1 / 7168 : ℝ) : EReal) + Ideal.ofBits .f32 0x358637BD#32)) := by
  have hk : Named.named (F := Ideal) κ "inv_d" (φ := .f32) 0x39124925#32 = ((1 / 7168 : ℝ) : EReal) := IdealRules.named_const.ideal_named_scalar _ _ _ _ rfl
  unfold nv
  rw [hk]
  pointwise

theorem es_apply (j : BitVec 32) (e : IVec S128x1 32) (acc : FVec Ideal S128x128 .f32) (y : S128x128.Idx) :
    es j e acc y = if BitVec.ofNat 32 (y 1).val = j then p2 e (ix2 (y 0) 0) else acc y := by
  unfold es
  pointwise
  by_cases h : BitVec.ofNat 32 (y 1).val = j
  · rw [if_pos h]; simp [IntOp.cmpi, h, Scalar.select]
  · rw [if_neg h]; simp [IntOp.cmpi, beq_eq_false_iff_ne.mpr h, Scalar.select]

theorem flip_apply (acc : FVec Ideal S128x128 .f32) (y : S56x128.Idx) :
    extractStridedSlice S56x128 ![0, 0] (transpose S128x128 [1, 0] acc transposes_S128x128_p1_0_S128x128) slices_S128x128_o0_0_S56x128 y
      = acc (ix2 (y 1) ⟨(y 0).val, by have h : (y 0).val < 56 := (y 0).isLt; omega⟩) := by
  pointwise

theorem hc_piece (v3 : Vec Ideal S16x128 .f32) (v7 : Vec Ideal S128x2048 .fp8e4m3) (xs : List ((s : Shape) × (s.Idx → Ideal .bf16)))
    (h : Shape.Concatenates (xs.map (·.1)) S128x2048 1) (x : S128x2048.Idx) (k : ℕ) (hk : k < xs.length) (p : S128x128.Idx → Ideal .bf16)
    (hp : xs[k] = ⟨S128x128, p⟩) (hxs : xs.map (·.1) = List.replicate 16 S128x128)
    (hq : (x 1).val / 128 = k) (h16 : k < 16)
    (hv : ∀ (r : Fin 128) (l : Fin 128), p (ix2 r l) = (v7 (ix2 r ⟨128 * k + l.val, by omega⟩) : EReal) * v3 (ix2 ⟨k, h16⟩ r)) :
    concatenate S128x2048 1 xs h x = HT v7 v3 x := by
  have hx : (x 1).val < 2048 := (x 1).isLt
  refine (concatenate_apply_piece 1 xs h x k hk S128x128 p hp rfl (128 * k) ?_ (ix2 (x 0) ⟨(x 1).val % 128, Nat.mod_lt _ (by decide)⟩) ?_ ?_).trans ?_
  · rw [List.map_take, hxs, List.take_replicate, List.map_replicate, List.sum_replicate, Nat.min_eq_left (le_of_lt h16)]
    show k * 128 = 128 * k; omega
  · intro b hb
    match b with
    | ⟨0, _⟩ => rfl
    | ⟨1, _⟩ => exact absurd rfl hb
  · show 128 * k + (x 1).val % 128 = (x 1).val; omega
  · refine (hv _ _).trans ?_
    unfold HT
    subst hq
    congr 1
    refine congrArg v7 (funext fun a => Fin.ext ?_)
    match a with
    | ⟨0, _⟩ => rfl
    | ⟨1, _⟩ => show 128 * ((x 1).val / 128) + (x 1).val % 128 = (x 1).val; omega

theorem hc_eq (v3 : Vec Ideal S16x128 .f32) (v7 : Vec Ideal S128x2048 .fp8e4m3) : hc v3 v7 = HT v7 v3 := by
  funext x
  have hx : (x 1).val < 2048 := (x 1).isLt
  have hk : (x 1).val / 128 = 0 ∨ (x 1).val / 128 = 1 ∨ (x 1).val / 128 = 2 ∨ (x 1).val / 128 = 3 ∨ (x 1).val / 128 = 4 ∨ (x 1).val / 128 = 5 ∨ (x 1).val / 128 = 6 ∨ (x 1).val / 128 = 7 ∨ (x 1).val / 128 = 8 ∨ (x 1).val / 128 = 9 ∨ (x 1).val / 128 = 10 ∨ (x 1).val / 128 = 11 ∨ (x 1).val / 128 = 12 ∨ (x 1).val / 128 = 13 ∨ (x 1).val / 128 = 14 ∨ (x 1).val / 128 = 15 := by omega
  unfold hc k0_pay16
  rcases hk with h | h | h | h | h | h | h | h | h | h | h | h | h | h | h | h
  · exact hc_piece v3 v7 _ _ x 0 (by show 0 < 16; decide) _ rfl rfl h (by decide) fun r l => by pointwise [k0_pay2, k0_pay3, k0_pay4]
  · exact hc_piece v3 v7 _ _ x 1 (by show 1 < 16; decide) _ rfl rfl h (by decide) fun r l => by pointwise [k0_pay2, k0_pay3, k0_pay5]
  · exact hc_piece v3 v7 _ _ x 2 (by show 2 < 16; decide) _ rfl rfl h (by decide) fun r l => by pointwise [k0_pay2, k0_pay3, k0_pay6]
  · exact hc_piece v3 v7 _ _ x 3 (by show 3 < 16; decide) _ rfl rfl h (by decide) fun r l => by pointwise [k0_pay2, k0_pay3, k0_pay7]
  · exact hc_piece v3 v7 _ _ x 4 (by show 4 < 16; decide) _ rfl rfl h (by decide) fun r l => by pointwise [k0_pay2, k0_pay3, k0_pay8]
  · exact hc_piece v3 v7 _ _ x 5 (by show 5 < 16; decide) _ rfl rfl h (by decide) fun r l => by pointwise [k0_pay2, k0_pay3, k0_pay9]
  · exact hc_piece v3 v7 _ _ x 6 (by show 6 < 16; decide) _ rfl rfl h (by decide) fun r l => by pointwise [k0_pay2, k0_pay3, k0_pay10]
  · exact hc_piece v3 v7 _ _ x 7 (by show 7 < 16; decide) _ rfl rfl h (by decide) fun r l => by pointwise [k0_pay2, k0_pay3, k0_pay11]
  · exact hc_piece v3 v7 _ _ x 8 (by show 8 < 16; decide) _ rfl rfl h (by decide) fun r l => by pointwise [k0_pay2, k0_pay3, k0_pay12]
  · exact hc_piece v3 v7 _ _ x 9 (by show 9 < 16; decide) _ rfl rfl h (by decide) fun r l => by pointwise [k0_pay2, k0_pay3, k0_pay13]
  · exact hc_piece v3 v7 _ _ x 10 (by show 10 < 16; decide) _ rfl rfl h (by decide) fun r l => by pointwise [k0_pay2, k0_pay3, k0_pay14, k0_pay15]
  · exact hc_piece v3 v7 _ _ x 11 (by show 11 < 16; decide) _ rfl rfl h (by decide) fun r l => by pointwise [k0_pay2, k0_pay3]
  · exact hc_piece v3 v7 _ _ x 12 (by show 12 < 16; decide) _ rfl rfl h (by decide) fun r l => by pointwise [k0_pay2, k0_pay3]
  · exact hc_piece v3 v7 _ _ x 13 (by show 13 < 16; decide) _ rfl rfl h (by decide) fun r l => by pointwise [k0_pay2, k0_pay3]
  · exact hc_piece v3 v7 _ _ x 14 (by show 14 < 16; decide) _ rfl rfl h (by decide) fun r l => by pointwise [k0_pay2, k0_pay3]
  · exact hc_piece v3 v7 _ _ x 15 (by show 15 < 16; decide) _ rfl rfl h (by decide) fun r l => by pointwise [k0_pay2, k0_pay3]

/-! ## Stores that are blocks of one array -/

/-- Stores that are blocks of `G` and cover the buffer leave `G` in it. -/
theorem read_of_pieces {sig : RefSig} {κ : Kind} {sp : Space} {s : Shape} {e : EltTy} {Val : EltTy → Type} [∀ e, Nonempty (Val e)] (v : View sig κ sp s e)
    (f : v.ty.Contents Val) (G : s.Idx → Val e) (L : List (View.Piece Val s e)) (h : View.PiecesOf G L) (hc : ∀ y : s.Idx, ∃ p ∈ L, y ∈ p.1.set) :
    v.read Val (v.writes Val f L) = G := by
  funext y
  rw [View.read_writes_apply_eq_canon v f y L (hc y)]
  have := View.canon_append_of_piecesOf G [] L h y (hc y)
  rwa [List.append_nil] at this

theorem pieces_nil {s : Shape} {e : EltTy} {Val : EltTy → Type} {G : s.Idx → Val e} : View.PiecesOf G ([] : List (View.Piece Val s e)) := trivial

theorem pieces_cons {s : Shape} {e : EltTy} {Val : EltTy → Type} {G : s.Idx → Val e} {r : Rect s} {v : r.shape.Idx → Val e} {L : List (View.Piece Val s e)}
    (h : ∀ x, v x = G (r.emb x)) (h' : View.PiecesOf G L) : View.PiecesOf G (⟨r, v⟩ :: L) := ⟨h, h'⟩

theorem pieces_append {s : Shape} {e : EltTy} {Val : EltTy → Type} {G : s.Idx → Val e} : ∀ {L L' : List (View.Piece Val s e)},
    View.PiecesOf G L → View.PiecesOf G L' → View.PiecesOf G (L ++ L')
  | [], _, _, h' => h'
  | _ :: _, _, h, h' => ⟨h.1, pieces_append h.2 h'⟩

/-- A loop whose every trip stores blocks of `G` has stored blocks of `G` before any trip. -/
theorem pieces_rec {s : Shape} {e : EltTy} {Val : EltTy → Type} {G : s.Idx → Val e} {trips : ℕ} (T : Fin trips → List (View.Piece Val s e))
    {pb : ℕ → List (View.Piece Val s e)} (h0 : pb 0 = []) (hs : ∀ n, pb (n + 1) = if h : n < trips then T ⟨n, h⟩ ++ pb n else pb n)
    (hT : ∀ k, View.PiecesOf G (T k)) : ∀ n, View.PiecesOf G (pb n)
  | 0 => by rw [h0]; trivial
  | n + 1 => by
    rw [hs]
    split
    · exact pieces_append (hT _) (pieces_rec T h0 hs hT n)
    · exact pieces_rec T h0 hs hT n

/-! ## The stored tiles -/

/-- A trip of the widening loop stores a block of the widened weights. -/
theorem tile {off off' : Fin 2 → ℕ} {inb : ∀ a, off a + S128x7168.size a ≤ S2048x7168.size a}
    {inb' : ∀ a, off' a + S1x7168.size a ≤ S16x7168.size a} (arg5 : Memref sig .tc .vmem S2048x7168 .fp8e4m3) (harg5 : arg5.IsWhole)
    (arg6 : Memref sig .tc .vmem S16x7168 .f32) (harg6 : arg6.IsWhole) (x4 : Vec Ideal S2048x7168 .fp8e4m3) (x5 : Vec Ideal S16x7168 .f32) (b : ℕ)
    (ho : off = ![128 * b, 0]) (ho' : off' = ![b, 0]) (x : (Rect.unit (s := S2048x7168) off S128x7168.size inb).shape.Idx) :
    k0_pay1 (F := Ideal) (View.readAt (Elt Ideal) arg5.view (Rect.unit (s := S2048x7168) off S128x7168.size inb).toLoadRect (harg5.unread x4))
      (View.readAt (Elt Ideal) arg6.view (Rect.unit (s := S16x7168) off' S1x7168.size inb').toLoadRect (harg6.unread x5)) x =
      WB x4 x5 ((Rect.unit (s := S2048x7168) off S128x7168.size inb).emb x) := by
  subst ho ho'
  rw [pay1_apply]
  simp only [View.readAt_eq_ld, Memref.IsWhole.read_unread]
  unfold WB
  have h0 : (x 0).val < 128 := (x 0).isLt
  rw [View.ld_apply, View.ld_apply]
  congr 1
  refine congrArg x5 (funext fun a => Fin.ext ?_)
  match a with
  | ⟨0, _⟩ => show b + 1 * 0 = (128 * b + 1 * (x 0).val) / 128; omega
  | ⟨1, _⟩ => rfl

/-- The widened hidden activations, from the two buffers they are read from. -/
theorem hidden {inb3 : ∀ a, (![0, 0] : Fin 2 → ℕ) a + S128x2048.size a ≤ S128x2048.size a} {inb4 : ∀ a, (![0, 0] : Fin 2 → ℕ) a + S16x128.size a ≤ S16x128.size a}
    (arg3 : Memref sig .tc .vmem S128x2048 .fp8e4m3) (harg3 : arg3.IsWhole) (arg4 : Memref sig .tc .vmem S16x128 .f32) (harg4 : arg4.IsWhole)
    (x2 : Vec Ideal S128x2048 .fp8e4m3) (x3 : Vec Ideal S16x128 .f32) :
    hc (View.readAt (Elt Ideal) arg4.view (Rect.unit (s := S16x128) ![0, 0] S16x128.size inb4).toLoadRect (harg4.unread x3))
      (View.readAt (Elt Ideal) arg3.view (Rect.unit (s := S128x2048) ![0, 0] S128x2048.size inb3).toLoadRect (harg3.unread x2)) = HT x2 x3 := by
  rw [hc_eq]
  simp only [View.readAt_eq_ld, Memref.IsWhole.read_unread]
  rw [View.ld_unit_lit _ _ (by decide), View.ld_unit_lit _ _ (by decide)]

section
variable {col : ℕ} {inbw : ∀ a, (![0, col] : Fin 2 → ℕ) a + S2048x256.size a ≤ S2048x7168.size a} {inbx : ∀ a, (![0, col] : Fin 2 → ℕ) a + S128x256.size a ≤ S128x7168.size a}
    (arg1 : Memref sig .tc .vmem S128x7168 .bf16) (harg1 : arg1.IsWhole) (arg2 : Memref sig .tc .vmem S128x7168 .f32) (harg2 : arg2.IsWhole)
    (arg11 : Memref sig .tc .vmem S2048x7168 .bf16) (X11 : BufTy.Contents (Elt Ideal) arg11.view.ty) (x0 : Vec Ideal S128x7168 .bf16) (x1 : Vec Ideal S128x7168 .f32)
    (H : Vec Ideal S128x2048 .bf16) (W : Vec Ideal S2048x7168 .bf16) (h : FVec Ideal S128x2048 .bf16) (hh : h = H) (h11 : arg11.view.read (Elt Ideal) X11 = W)

/-- 256 columns of the residual stream, as the body computes them. -/
abbrev xr (col : ℕ) (inbw : ∀ a, (![0, col] : Fin 2 → ℕ) a + S2048x256.size a ≤ S2048x7168.size a) (inbx : ∀ a, (![0, col] : Fin 2 → ℕ) a + S128x256.size a ≤ S128x7168.size a) : FVec Ideal S128x256 .f32 :=
  xt h (View.readAt (Elt Ideal) arg11.view (Rect.unit (s := S2048x7168) ![0, col] S2048x256.size inbw).toLoadRect X11)
    (View.readAt (Elt Ideal) arg1.view (Rect.unit (s := S128x7168) ![0, col] S128x256.size inbx).toLoadRect (harg1.unread x0))
    (View.readAt (Elt Ideal) arg2.view (Rect.unit (s := S128x7168) ![0, col] S128x256.size inbx).toLoadRect (harg2.unread x1))

include hh h11

theorem xr_apply (x : (Rect.unit (s := S128x7168) ![0, col] S128x256.size inbx).shape.Idx) :
    xr arg1 harg1 arg2 harg2 arg11 X11 x0 x1 h col inbw inbx x = X1 x0 x1 H W ((Rect.unit (s := S128x7168) ![0, col] S128x256.size inbx).emb x) := by
  subst hh h11
  rw [xr, xt_apply]
  simp only [View.readAt_eq_ld, Memref.IsWhole.read_unread]
  unfold X1
  rw [View.ld_apply, View.ld_apply]
  congr 2
  refine Finset.sum_congr rfl fun k _ => ?_
  rw [View.ld_apply]
  congr 1
  · refine congrArg h (funext fun a => Fin.ext ?_)
    match a with
    | ⟨0, _⟩ => show (x 0).val = 0 + 1 * (x 0).val; omega
    | ⟨1, _⟩ => rfl
  · refine congrArg (arg11.view.read (Elt Ideal) X11) (funext fun a => Fin.ext ?_)
    match a with
    | ⟨0, _⟩ => show 0 + 1 * k.val = k.val; omega
    | ⟨1, _⟩ => rfl

/-- What is kept of it for the second pass. -/
theorem x1_kept (x : (Rect.unit (s := S128x7168) ![0, col] S128x256.size inbx).shape.Idx) :
    shapeCast S128x256 (xr arg1 harg1 arg2 harg2 arg11 X11 x0 x1 h col inbw inbx) shapeCasts_S128x256_S128x256 x
      = X1 x0 x1 H W ((Rect.unit (s := S128x7168) ![0, col] S128x256.size inbx).emb x) := by
  rw [← xr_apply (inbw := inbw) arg1 harg1 arg2 harg2 arg11 X11 x0 x1 H W h hh h11 x]
  pointwise

/-- What is stored of it as a result. -/
theorem x1_out (x : (Rect.unit (s := S128x7168) ![0, col] S128x256.size inbx).shape.Idx) :
    truncf .bf16 (xr arg1 harg1 arg2 harg2 arg11 X11 x0 x1 h col inbw inbx) bitsLt_bf16_f32 x
      = XO x0 x1 H W ((Rect.unit (s := S128x7168) ![0, col] S128x256.size inbx).emb x) :=
  xr_apply (inbw := inbw) arg1 harg1 arg2 harg2 arg11 X11 x0 x1 H W h hh h11 x

end

/-! ## The sum of squares -/

/-- The square at column `c` of row `r`. -/
def sqAt (X : Vec Ideal S128x7168 .f32) (r : Fin 128) (c : ℕ) : EReal :=
  if h : c < 7168 then (X (ix2 r ⟨c, h⟩) : EReal) * X (ix2 r ⟨c, h⟩) else 0

/-- The squares lane `l` has summed after `m` runs. -/
def lane (X : Vec Ideal S128x7168 .f32) (m : ℕ) (r : Fin 128) (l : Fin 128) : EReal :=
  ∑ k ∈ Finset.range m, sqAt X r (128 * k + l.val)

theorem lane_start (X : Vec Ideal S128x7168 .f32) (r l : Fin 128) : broadcast S128x128 (Scalar.ofBits (F := Ideal) .f32 0x00000000#32) (ix2 r l) = lane X 0 r l := by
  unfold lane
  pointwise
  simp

theorem lane_step (m : ℕ) {col : ℕ} {inbw : ∀ a, (![0, col] : Fin 2 → ℕ) a + S2048x256.size a ≤ S2048x7168.size a} {inbx : ∀ a, (![0, col] : Fin 2 → ℕ) a + S128x256.size a ≤ S128x7168.size a}
    (arg1 : Memref sig .tc .vmem S128x7168 .bf16) (harg1 : arg1.IsWhole) (arg2 : Memref sig .tc .vmem S128x7168 .f32) (harg2 : arg2.IsWhole)
    (arg11 : Memref sig .tc .vmem S2048x7168 .bf16) (X11 : BufTy.Contents (Elt Ideal) arg11.view.ty) (x0 : Vec Ideal S128x7168 .bf16) (x1 : Vec Ideal S128x7168 .f32)
    (H : Vec Ideal S128x2048 .bf16) (W : Vec Ideal S2048x7168 .bf16) (h : FVec Ideal S128x2048 .bf16) (hh : h = H) (h11 : arg11.view.read (Elt Ideal) X11 = W)
    (hc : col = 128 * m) (acc : FVec Ideal S128x128 .f32) (ha : ∀ r l, acc (ix2 r l) = lane (X1 x0 x1 H W) m r l) (r l : Fin 128) :
    sq acc (xr arg1 harg1 arg2 harg2 arg11 X11 x0 x1 h col inbw inbx) (ix2 r l) = lane (X1 x0 x1 H W) (m + 2) r l := by
  have hin : col + 256 ≤ 7168 := inbx 1
  have e : ∀ (j : ℕ) (hj : j < 256), xr arg1 harg1 arg2 harg2 arg11 X11 x0 x1 h col inbw inbx (ix2 r ⟨j, hj⟩) = X1 x0 x1 H W (ix2 r ⟨col + j, by omega⟩) := fun j hj => by
    refine (xr_apply (inbw := inbw) (inbx := inbx) arg1 harg1 arg2 harg2 arg11 X11 x0 x1 H W h hh h11 (ix2 r ⟨j, hj⟩)).trans ?_
    refine congrArg (X1 x0 x1 H W) (funext fun a => Fin.ext ?_)
    match a with
    | ⟨0, _⟩ => show 0 + 1 * r.val = r.val; omega
    | ⟨1, _⟩ => show col + 1 * j = col + j; omega
  rw [sq_apply, ha, e, e]
  unfold lane
  rw [Finset.sum_range_succ, Finset.sum_range_succ]
  subst hc
  have h1 : 128 * m + l.val < 7168 := by omega
  have h2 : 128 * (m + 1) + l.val < 7168 := by omega
  rw [sqAt, sqAt, dif_pos h1, dif_pos h2]
  have e2 : (⟨128 * m + (128 + l.val), by omega⟩ : Fin 7168) = ⟨128 * (m + 1) + l.val, h2⟩ := Fin.ext (by show 128 * m + (128 + l.val) = 128 * (m + 1) + l.val; omega)
  rw [e2]

theorem inverse (X : Vec Ideal S128x7168 .f32) (acc : FVec Ideal S128x128 .f32) (ha : ∀ r l, acc (ix2 r l) = lane X 56 r l) : nv acc = INV X := by
  funext y
  rw [nv_apply]
  unfold INV
  congr 4
  rw [Finset.sum_congr rfl fun k _ => ha (y 0) k]
  unfold lane
  rw [Finset.sum_comm, Finset.sum_range]
  refine Eq.trans ?_ (Fin.sum_univ_tiles 56 128 rfl (fun k : Fin 7168 => (X (ix2 (y 0) k) : EReal) * X (ix2 (y 0) k))).symm
  refine Finset.sum_congr rfl fun j _ => Finset.sum_congr rfl fun l _ => ?_
  have h : 128 * j.val + l.val < 7168 := by omega
  refine (dif_pos h).trans ?_
  have e : (⟨128 * j.val + l.val, h⟩ : Fin 7168) = ⟨j.val * 128 + l.val, by omega⟩ := Fin.ext (by show 128 * j.val + l.val = j.val * 128 + l.val; omega)
  rw [e]

/-! ## The quantised runs -/

section
variable (j : Fin 56) {col : ℕ} (hj : col = 128 * j.val) {inb : ∀ a, (![0, col] : Fin 2 → ℕ) a + S128x128.size a ≤ S128x7168.size a}
    {inbg : ∀ a, (![0, col] : Fin 2 → ℕ) a + S1x128.size a ≤ S1x7168.size a}
    (arg7 : Memref sig .tc .vmem S1x7168 .f32) (harg7 : arg7.IsWhole) (arg12 : Memref sig .tc .vmem S128x7168 .f32) (x6 : Vec Ideal S1x7168 .f32)
    (X : Vec Ideal S128x7168 .f32) (inv : FVec Ideal S128x1 .f32) (hi : inv = INV X) (L : List (View.Piece (Elt Ideal) S128x7168 .f32)) (hL : View.PiecesOf X L)
    (hcov : ∀ y : S128x7168.Idx, ∃ p ∈ L, y ∈ p.1.set)

/-- A run normalised, as the body computes it. -/
abbrev vr (col : ℕ) (inb : ∀ a, (![0, col] : Fin 2 → ℕ) a + S128x128.size a ≤ S128x7168.size a) (inbg : ∀ a, (![0, col] : Fin 2 → ℕ) a + S1x128.size a ≤ S1x7168.size a) : FVec Ideal S128x128 .f32 :=
  vt inv (arg12.view.readCov L (Rect.unit (s := S128x7168) ![0, col] S128x128.size inb).toLoadRect)
    (View.readAt (Elt Ideal) arg7.view (Rect.unit (s := S1x7168) ![0, col] S1x128.size inbg).toLoadRect (harg7.unread x6))

include hj hi hL hcov

theorem vr_eq : vr arg7 harg7 arg12 x6 inv L col inb inbg = runOf (NV X x6) j := by
  subst hi hj
  funext x
  rw [vr, vt_apply]
  unfold View.readCov
  rw [View.readAt_eq_ld, View.readAt_eq_ld, read_of_pieces _ _ X L hL hcov, Memref.IsWhole.read_unread, View.ld_apply, View.ld_apply]
  have e1 : (Rect.unit (s := S128x7168) ![0, 128 * j.val] S128x128.size inb).emb x = ix2 (x 0) ⟨128 * j.val + (x 1).val, by have h : (x 1).val < 128 := (x 1).isLt; omega⟩ :=
    funext fun a => Fin.ext (match a with
      | ⟨0, _⟩ => by show 0 + 1 * (x 0).val = (x 0).val; omega
      | ⟨1, _⟩ => by show 128 * j.val + 1 * (x 1).val = 128 * j.val + (x 1).val; omega)
  have e2 : (Rect.unit (s := S1x7168) ![0, 128 * j.val] S1x128.size inbg).emb (ix2 0 (x 1)) = ix2 0 ⟨128 * j.val + (x 1).val, by have h : (x 1).val < 128 := (x 1).isLt; omega⟩ :=
    funext fun a => Fin.ext (match a with
      | ⟨0, _⟩ => rfl
      | ⟨1, _⟩ => by show 128 * j.val + 1 * (x 1).val = 128 * j.val + (x 1).val; omega)
  exact congrArg₂ (fun a b => ((X a : EReal) * INV X (ix2 (x 0) 0)) * x6 b) e1 e2

theorem code (x : (Rect.unit (s := S128x7168) ![0, col] S128x128.size inb).shape.Idx) :
    ct (vr arg7 harg7 arg12 x6 inv L col inb inbg) (ex (am (vr arg7 harg7 arg12 x6 inv L col inb inbg))) x
      = CODES (NV X x6) ((Rect.unit (s := S128x7168) ![0, col] S128x128.size inb).emb x) := by
  rw [vr_eq j hj arg7 harg7 arg12 x6 X inv hi L hL hcov]
  subst hj
  unfold CODES
  have h1 : (x 1).val < 128 := (x 1).isLt
  have ej : ∀ hlt, (⟨(((Rect.unit (s := S128x7168) ![0, 128 * j.val] S128x128.size inb).emb x) 1).val / 128, hlt⟩ : Fin 56) = j := fun hlt => Fin.ext (by
    show (128 * j.val + 1 * (x 1).val) / 128 = j.val; omega)
  rw [ej]
  refine congrArg (ct (runOf (NV X x6) j) (ex (am (runOf (NV X x6) j)))) (funext fun a => Fin.ext ?_)
  match a with
  | ⟨0, _⟩ => show (x 0).val = 0 + 1 * (x 0).val; omega
  | ⟨1, _⟩ => show (x 1).val = (128 * j.val + 1 * (x 1).val) % 128; omega

/-- After run `j` the first `j + 1` columns hold their scales. -/
theorem scale_step (w : BitVec 32) (hw : w = BitVec.ofNat 32 j.val) (acc : FVec Ideal S128x128 .f32)
    (ha : ∀ (r : Fin 128) (l : Fin 56), l.val < j.val → acc (ix2 r ⟨l.val, by omega⟩) = p2 (ex (am (runOf (NV X x6) l))) (ix2 r 0))
    (r : Fin 128) (l : Fin 56) (hl : l.val < j.val + 1) :
    es w (ex (am (vr arg7 harg7 arg12 x6 inv L col inb inbg))) acc (ix2 r ⟨l.val, by omega⟩) = p2 (ex (am (runOf (NV X x6) l))) (ix2 r 0) := by
  rw [vr_eq j hj arg7 harg7 arg12 x6 X inv hi L hL hcov, es_apply, hw]
  by_cases h : l.val = j.val
  · rw [if_pos (by show BitVec.ofNat 32 l.val = BitVec.ofNat 32 j.val; rw [h]), Fin.ext h]
    rfl
  · rw [if_neg]
    · exact ha r l (by omega)
    · intro e
      have := congrArg BitVec.toNat e
      simp only [BitVec.toNat_ofNat] at this
      have e' : ((ix2 r (⟨l.val, by omega⟩ : Fin 128) : S128x128.Idx) 1).val = l.val := rfl
      rw [e'] at this
      omega

end

theorem scales (Z : Vec Ideal S128x7168 .f32) (acc : FVec Ideal S128x128 .f32)
    (ha : ∀ (r : Fin 128) (l : Fin 56), l.val < 56 → acc (ix2 r ⟨l.val, by omega⟩) = p2 (ex (am (runOf Z l))) (ix2 r 0)) (y : S56x128.Idx) :
    extractStridedSlice S56x128 ![0, 0] (transpose S128x128 [1, 0] acc transposes_S128x128_p1_0_S128x128) slices_S128x128_o0_0_S56x128 y = SC Z y := by
  rw [flip_apply]
  exact ha (y 1) (y 0) (y 0).isLt

theorem scales_out (Z : Vec Ideal S128x7168 .f32) (acc : FVec Ideal S128x128 .f32)
    (ha : ∀ (r : Fin 128) (l : Fin 56), l.val < 56 → acc (ix2 r ⟨l.val, by omega⟩) = p2 (ex (am (runOf Z l))) (ix2 r 0))
    {inb : ∀ a, (![0, 0] : Fin 2 → ℕ) a + (![56, 128] : Fin 2 → ℕ) a ≤ S56x128.size a} (x : (Rect.unit (s := S56x128) ![0, 0] ![56, 128] inb).shape.Idx) :
    extractStridedSlice S56x128 ![0, 0] (transpose S128x128 [1, 0] acc transposes_S128x128_p1_0_S128x128) slices_S128x128_o0_0_S56x128 x
      = SC Z ((Rect.unit (s := S56x128) ![0, 0] ![56, 128] inb).emb x) := by
  refine (scales Z acc ha x).trans (congrArg (SC Z) (funext fun a => Fin.ext ?_))
  match a with
  | ⟨0, _⟩ => show (x 0).val = 0 + 1 * (x 0).val; omega
  | ⟨1, _⟩ => show (x 1).val = 0 + 1 * (x 1).val; omega

/-! ## The widening loop -/

section
variable (c : Dev nD) (i : grid0.Coords) (arg1 : Memref sig .tc .vmem S128x7168 .bf16) (harg1 : arg1.IsWhole) (arg2 : Memref sig .tc .vmem S128x7168 .f32) (harg2 : arg2.IsWhole) (arg3 : Memref sig .tc .vmem S128x2048 .fp8e4m3) (harg3 : arg3.IsWhole) (arg4 : Memref sig .tc .vmem S16x128 .f32) (harg4 : arg4.IsWhole) (arg5 : Memref sig .tc .vmem S2048x7168 .fp8e4m3) (harg5 : arg5.IsWhole) (arg6 : Memref sig .tc .vmem S16x7168 .f32) (harg6 : arg6.IsWhole) (arg7 : Memref sig .tc .vmem S1x7168 .f32) (harg7 : arg7.IsWhole) (arg8 : Memref sig .tc .vmem S128x7168 .bf16) (harg8 : arg8.IsWhole) (arg9 : Memref sig .tc .vmem S128x7168 .fp8e4m3) (harg9 : arg9.IsWhole) (arg10 : Memref sig .tc .vmem S56x128 .f32) (harg10 : arg10.IsWhole) (arg11 : Memref sig .tc .vmem S2048x7168 .bf16) (harg11 : arg11.IsWhole) (arg12 : Memref sig .tc .vmem S128x7168 .f32) (harg12 : arg12.IsWhole)
    (x4 : Vec Ideal S2048x7168 .fp8e4m3) (x5 : Vec Ideal S16x7168 .f32)

theorem widen (hc0 : cond0_0 i) (n : ℕ) : View.PiecesOf (WB x4 x5) (pb_k0_t1 (F := Ideal) Variants.none c none i arg1 harg1 arg2 harg2 arg3 harg3 arg4 harg4 arg5 harg5 arg6 harg6 arg7 harg7 arg8 harg8 arg9 harg9 arg10 harg10 arg11 harg11 arg12 harg12 hc0 (harg5.unread x4) (harg6.unread x5) n) :=
  pieces_rec (tripL_k0_t1 (F := Ideal) Variants.none c none i arg1 harg1 arg2 harg2 arg3 harg3 arg4 harg4 arg5 harg5 arg6 harg6 arg7 harg7 arg8 harg8 arg9 harg9 arg10 harg10 arg11 harg11 arg12 harg12 hc0 (harg5.unread x4) (harg6.unread x5))
    (pb_k0_t1.eq_1 ..) (fun n => by rw [pb_k0_t1.eq_2]; unfold pb_k0_t1Step; rfl)
    (fun k => by unfold tripL_k0_t1 trip_k0_t1; exact ⟨tile arg5 harg5 arg6 harg6 x4 x5 _
      ((by decide +kernel : ∀ k, k0_off1 k = ![128 * k.val, 0]) k) ((by decide +kernel : ∀ k, k0_off2 k = ![k.val, 0]) k), trivial⟩) n

end

end Cert.NormIdeal.Norm

end
-- ==== Proof.Norm.BodyA.lean ====
/- The first grid point of the dense1 call: the weights are widened, then the tile is computed. -/
module

public import proofs.«01_k».proof.Proof.Norm.Tiles
public import Idealize.ShloMosaic.PureOps.Ideal
public import Idealize.ShloMosaic.Lib.Pipeline.ValueKit
public import Idealize.ShloMosaic.Lib.Pipeline.ReadBack

@[expose] public section

set_option maxRecDepth 16384

noncomputable section

namespace Cert.NormIdeal.Norm

open Cert.NormIdeal Cert.NormIdeal.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 8000000 in
theorem run_A (c : Dev nD) (i : grid0.Coords) (arg1 : Memref sig .tc .vmem S128x7168 .bf16) (harg1 : arg1.IsWhole) (arg2 : Memref sig .tc .vmem S128x7168 .f32) (harg2 : arg2.IsWhole) (arg3 : Memref sig .tc .vmem S128x2048 .fp8e4m3) (harg3 : arg3.IsWhole) (arg4 : Memref sig .tc .vmem S16x128 .f32) (harg4 : arg4.IsWhole) (arg5 : Memref sig .tc .vmem S2048x7168 .fp8e4m3) (harg5 : arg5.IsWhole) (arg6 : Memref sig .tc .vmem S16x7168 .f32) (harg6 : arg6.IsWhole) (arg7 : Memref sig .tc .vmem S1x7168 .f32) (harg7 : arg7.IsWhole) (arg8 : Memref sig .tc .vmem S128x7168 .bf16) (harg8 : arg8.IsWhole) (arg9 : Memref sig .tc .vmem S128x7168 .fp8e4m3) (harg9 : arg9.IsWhole) (arg10 : Memref sig .tc .vmem S56x128 .f32) (harg10 : arg10.IsWhole) (arg11 : Memref sig .tc .vmem S2048x7168 .bf16) (harg11 : arg11.IsWhole) (arg12 : Memref sig .tc .vmem S128x7168 .f32) (harg12 : arg12.IsWhole) (hc0 : cond0_0 i)
    (x0 : Vec Ideal S128x7168 .bf16) (x1 : Vec Ideal S128x7168 .f32) (x2 : Vec Ideal S128x2048 .fp8e4m3) (x3 : Vec Ideal S16x128 .f32) (x4 : Vec Ideal S2048x7168 .fp8e4m3) (x5 : Vec Ideal S16x7168 .f32) (x6 : Vec Ideal S1x7168 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (XO x0 x1 (HT x2 x3) (WB x4 x5)) ∗ owns (c : Thread nD τ) arg9 fullShare (CODES (NV (X1 x0 x1 (HT x2 x3) (WB x4 x5)) x6)) ∗ owns (c : Thread nD τ) arg10 fullShare (SC (NV (X1 x0 x1 (HT x2 x3) (WB x4 x5)) x6)) ∗ owns (c : Thread nD τ) arg11 fullShare (WB x4 x5) ∗ (∃ d, owns (c : Thread nD τ) arg12 fullShare d)) -∗ K ⟨⟩))
      ⊢ wp frame (wpE (defs₀ (F := Ideal)) Variants.none c none) E (cc0_dense1 i arg1 harg1 arg2 harg2 arg3 harg3 arg4 harg4 arg5 harg5 arg6 harg6 arg7 harg7 arg8 harg8 arg9 harg9 arg10 harg10 arg11 harg11 arg12 harg12) K := by
  simp only [cc0_dense1_eq_skeleton]; unfold cc0_dense1_skel
  simp only [k0_part90_eq_skeleton]; unfold k0_part90_skel
  simp only [k0_part1_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  have h11 := read_of_pieces arg11.view fs0 (WB x4 x5) _ (widen c i arg1 harg1 arg2 harg2 arg3 harg3 arg4 harg4 arg5 harg5 arg6 harg6 arg7 harg7 arg8 harg8 arg9 harg9 arg10 harg10 arg11 harg11 arg12 harg12 x4 x5 hc0 (Scf.trips k0_t1_loop.lb k0_t1_loop.ub k0_t1_loop.st))
    (View.cover_of_tiledBy _ ![128, 7168] (by sl_kernel_rfl))
  have hH : run_A.sl.v73 c arg3 harg3 arg4 harg4 x2 x3 = HT x2 x3 := hidden (inb3 := by decide) (inb4 := by decide) arg3 harg3 arg4 harg4 x2 x3
  have h12 : View.PiecesOf (X1 x0 x1 (HT x2 x3) (WB x4 x5)) (run_A.sl.HS1_28 c i arg1 harg1 arg2 harg2 arg3 harg3 arg4 harg4 arg5 harg5 arg6 harg6 arg7 harg7 arg8 harg8 arg9 harg9 arg10 harg10 arg11 harg11 arg12 harg12 hc0 x0 x1 x2 x3 x4 x5 fs0) := by
    repeat (first | exact pieces_nil | refine pieces_cons (x1_kept arg1 harg1 arg2 harg2 arg11 _ x0 x1 (HT x2 x3) (WB x4 x5) _ hH h11) ?_)
  have hcov : ∀ y : S128x7168.Idx, ∃ p ∈ run_A.sl.HS1_28 c i arg1 harg1 arg2 harg2 arg3 harg3 arg4 harg4 arg5 harg5 arg6 harg6 arg7 harg7 arg8 harg8 arg9 harg9 arg10 harg10 arg11 harg11 arg12 harg12 hc0 x0 x1 x2 x3 x4 x5 fs0, y ∈ p.1.set := View.cover_of_tiledL _ S128x256.size (by sl_kernel_rfl)
  have hinv : run_A.sl.v643 c i arg1 harg1 arg2 harg2 arg3 harg3 arg4 harg4 arg5 harg5 arg6 harg6 arg7 harg7 arg8 harg8 arg9 harg9 arg10 harg10 arg11 harg11 arg12 harg12 hc0 x0 x1 x2 x3 x4 x5 fs0 = INV (X1 x0 x1 (HT x2 x3) (WB x4 x5)) :=
    inverse _ _ (lane_step 54 arg1 harg1 arg2 harg2 arg11 _ x0 x1 (HT x2 x3) (WB x4 x5) _ hH h11 (by decide) _ (lane_step 52 arg1 harg1 arg2 harg2 arg11 _ x0 x1 (HT x2 x3) (WB x4 x5) _ hH h11 (by decide) _ (lane_step 50 arg1 harg1 arg2 harg2 arg11 _ x0 x1 (HT x2 x3) (WB x4 x5) _ hH h11 (by decide) _ (lane_step 48 arg1 harg1 arg2 harg2 arg11 _ x0 x1 (HT x2 x3) (WB x4 x5) _ hH h11 (by decide) _ (lane_step 46 arg1 harg1 arg2 harg2 arg11 _ x0 x1 (HT x2 x3) (WB x4 x5) _ hH h11 (by decide) _ (lane_step 44 arg1 harg1 arg2 harg2 arg11 _ x0 x1 (HT x2 x3) (WB x4 x5) _ hH h11 (by decide) _ (lane_step 42 arg1 harg1 arg2 harg2 arg11 _ x0 x1 (HT x2 x3) (WB x4 x5) _ hH h11 (by decide) _ (lane_step 40 arg1 harg1 arg2 harg2 arg11 _ x0 x1 (HT x2 x3) (WB x4 x5) _ hH h11 (by decide) _ (lane_step 38 arg1 harg1 arg2 harg2 arg11 _ x0 x1 (HT x2 x3) (WB x4 x5) _ hH h11 (by decide) _ (lane_step 36 arg1 harg1 arg2 harg2 arg11 _ x0 x1 (HT x2 x3) (WB x4 x5) _ hH h11 (by decide) _ (lane_step 34 arg1 harg1 arg2 harg2 arg11 _ x0 x1 (HT x2 x3) (WB x4 x5) _ hH h11 (by decide) _ (lane_step 32 arg1 harg1 arg2 harg2 arg11 _ x0 x1 (HT x2 x3) (WB x4 x5) _ hH h11 (by decide) _ (lane_step 30 arg1 harg1 arg2 harg2 arg11 _ x0 x1 (HT x2 x3) (WB x4 x5) _ hH h11 (by decide) _ (lane_step 28 arg1 harg1 arg2 harg2 arg11 _ x0 x1 (HT x2 x3) (WB x4 x5) _ hH h11 (by decide) _ (lane_step 26 arg1 harg1 arg2 harg2 arg11 _ x0 x1 (HT x2 x3) (WB x4 x5) _ hH h11 (by decide) _ (lane_step 24 arg1 harg1 arg2 harg2 arg11 _ x0 x1 (HT x2 x3) (WB x4 x5) _ hH h11 (by decide) _ (lane_step 22 arg1 harg1 arg2 harg2 arg11 _ x0 x1 (HT x2 x3) (WB x4 x5) _ hH h11 (by decide) _ (lane_step 20 arg1 harg1 arg2 harg2 arg11 _ x0 x1 (HT x2 x3) (WB x4 x5) _ hH h11 (by decide) _ (lane_step 18 arg1 harg1 arg2 harg2 arg11 _ x0 x1 (HT x2 x3) (WB x4 x5) _ hH h11 (by decide) _ (lane_step 16 arg1 harg1 arg2 harg2 arg11 _ x0 x1 (HT x2 x3) (WB x4 x5) _ hH h11 (by decide) _ (lane_step 14 arg1 harg1 arg2 harg2 arg11 _ x0 x1 (HT x2 x3) (WB x4 x5) _ hH h11 (by decide) _ (lane_step 12 arg1 harg1 arg2 harg2 arg11 _ x0 x1 (HT x2 x3) (WB x4 x5) _ hH h11 (by decide) _ (lane_step 10 arg1 harg1 arg2 harg2 arg11 _ x0 x1 (HT x2 x3) (WB x4 x5) _ hH h11 (by decide) _ (lane_step 8 arg1 harg1 arg2 harg2 arg11 _ x0 x1 (HT x2 x3) (WB x4 x5) _ hH h11 (by decide) _ (lane_step 6 arg1 harg1 arg2 harg2 arg11 _ x0 x1 (HT x2 x3) (WB x4 x5) _ hH h11 (by decide) _ (lane_step 4 arg1 harg1 arg2 harg2 arg11 _ x0 x1 (HT x2 x3) (WB x4 x5) _ hH h11 (by decide) _ (lane_step 2 arg1 harg1 arg2 harg2 arg11 _ x0 x1 (HT x2 x3) (WB x4 x5) _ hH h11 (by decide) _ (lane_step 0 arg1 harg1 arg2 harg2 arg11 _ x0 x1 (HT x2 x3) (WB x4 x5) _ hH h11 (by decide) _ (lane_start _)))))))))))))))))))))))))))))
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine read_of_pieces arg8.view _ _ _ ?_ (View.cover_of_tiledL _ S128x256.size (by sl_kernel_rfl))
    repeat (first | exact pieces_nil | refine pieces_cons (x1_out arg1 harg1 arg2 harg2 arg11 _ x0 x1 (HT x2 x3) (WB x4 x5) _ hH h11) ?_)
  isplitl [H8]
  · iexists _; isplitr; swap; · iexact H8
    ipureintro
    refine read_of_pieces arg9.view _ _ _ ?_ (View.cover_of_tiledL _ S128x128.size (by sl_kernel_rfl))
    refine pieces_cons (code 55 (by decide) arg7 harg7 arg12 x6 (X1 x0 x1 (HT x2 x3) (WB x4 x5)) _ hinv _ h12 hcov) ?_
    refine pieces_cons (code 54 (by decide) arg7 harg7 arg12 x6 (X1 x0 x1 (HT x2 x3) (WB x4 x5)) _ hinv _ h12 hcov) ?_
    refine pieces_cons (code 53 (by decide) arg7 harg7 arg12 x6 (X1 x0 x1 (HT x2 x3) (WB x4 x5)) _ hinv _ h12 hcov) ?_
    refine pieces_cons (code 52 (by decide) arg7 harg7 arg12 x6 (X1 x0 x1 (HT x2 x3) (WB x4 x5)) _ hinv _ h12 hcov) ?_
    refine pieces_cons (code 51 (by decide) arg7 harg7 arg12 x6 (X1 x0 x1 (HT x2 x3) (WB x4 x5)) _ hinv _ h12 hcov) ?_
    refine pieces_cons (code 50 (by decide) arg7 harg7 arg12 x6 (X1 x0 x1 (HT x2 x3) (WB x4 x5)) _ hinv _ h12 hcov) ?_
    refine pieces_cons (code 49 (by decide) arg7 harg7 arg12 x6 (X1 x0 x1 (HT x2 x3) (WB x4 x5)) _ hinv _ h12 hcov) ?_
    refine pieces_cons (code 48 (by decide) arg7 harg7 arg12 x6 (X1 x0 x1 (HT x2 x3) (WB x4 x5)) _ hinv _ h12 hcov) ?_
    refine pieces_cons (code 47 (by decide) arg7 harg7 arg12 x6 (X1 x0 x1 (HT x2 x3) (WB x4 x5)) _ hinv _ h12 hcov) ?_
    refine pieces_cons (code 46 (by decide) arg7 harg7 arg12 x6 (X1 x0 x1 (HT x2 x3) (WB x4 x5)) _ hinv _ h12 hcov) ?_
    refine pieces_cons (code 45 (by decide) arg7 harg7 arg12 x6 (X1 x0 x1 (HT x2 x3) (WB x4 x5)) _ hinv _ h12 hcov) ?_
    refine pieces_cons (code 44 (by decide) arg7 harg7 arg12 x6 (X1 x0 x1 (HT x2 x3) (WB x4 x5)) _ hinv _ h12 hcov) ?_
    refine pieces_cons (code 43 (by decide) arg7 harg7 arg12 x6 (X1 x0 x1 (HT x2 x3) (WB x4 x5)) _ hinv _ h12 hcov) ?_
    refine pieces_cons (code 42 (by decide) arg7 harg7 arg12 x6 (X1 x0 x1 (HT x2 x3) (WB x4 x5)) _ hinv _ h12 hcov) ?_
    refine pieces_cons (code 41 (by decide) arg7 harg7 arg12 x6 (X1 x0 x1 (HT x2 x3) (WB x4 x5)) _ hinv _ h12 hcov) ?_
    refine pieces_cons (code 40 (by decide) arg7 harg7 arg12 x6 (X1 x0 x1 (HT x2 x3) (WB x4 x5)) _ hinv _ h12 hcov) ?_
    refine pieces_cons (code 39 (by decide) arg7 harg7 arg12 x6 (X1 x0 x1 (HT x2 x3) (WB x4 x5)) _ hinv _ h12 hcov) ?_
    refine pieces_cons (code 38 (by decide) arg7 harg7 arg12 x6 (X1 x0 x1 (HT x2 x3) (WB x4 x5)) _ hinv _ h12 hcov) ?_
    refine pieces_cons (code 37 (by decide) arg7 harg7 arg12 x6 (X1 x0 x1 (HT x2 x3) (WB x4 x5)) _ hinv _ h12 hcov) ?_
    refine pieces_cons (code 36 (by decide) arg7 harg7 arg12 x6 (X1 x0 x1 (HT x2 x3) (WB x4 x5)) _ hinv _ h12 hcov) ?_
    refine pieces_cons (code 35 (by decide) arg7 harg7 arg12 x6 (X1 x0 x1 (HT x2 x3) (WB x4 x5)) _ hinv _ h12 hcov) ?_
    refine pieces_cons (code 34 (by decide) arg7 harg7 arg12 x6 (X1 x0 x1 (HT x2 x3) (WB x4 x5)) _ hinv _ h12 hcov) ?_
    refine pieces_cons (code 33 (by decide) arg7 harg7 arg12 x6 (X1 x0 x1 (HT x2 x3) (WB x4 x5)) _ hinv _ h12 hcov) ?_
    refine pieces_cons (code 32 (by decide) arg7 harg7 arg12 x6 (X1 x0 x1 (HT x2 x3) (WB x4 x5)) _ hinv _ h12 hcov) ?_
    refine pieces_cons (code 31 (by decide) arg7 harg7 arg12 x6 (X1 x0 x1 (HT x2 x3) (WB x4 x5)) _ hinv _ h12 hcov) ?_
    refine pieces_cons (code 30 (by decide) arg7 harg7 arg12 x6 (X1 x0 x1 (HT x2 x3) (WB x4 x5)) _ hinv _ h12 hcov) ?_
    refine pieces_cons (code 29 (by decide) arg7 harg7 arg12 x6 (X1 x0 x1 (HT x2 x3) (WB x4 x5)) _ hinv _ h12 hcov) ?_
    refine pieces_cons (code 28 (by decide) arg7 harg7 arg12 x6 (X1 x0 x1 (HT x2 x3) (WB x4 x5)) _ hinv _ h12 hcov) ?_
    refine pieces_cons (code 27 (by decide) arg7 harg7 arg12 x6 (X1 x0 x1 (HT x2 x3) (WB x4 x5)) _ hinv _ h12 hcov) ?_
    refine pieces_cons (code 26 (by decide) arg7 harg7 arg12 x6 (X1 x0 x1 (HT x2 x3) (WB x4 x5)) _ hinv _ h12 hcov) ?_
    refine pieces_cons (code 25 (by decide) arg7 harg7 arg12 x6 (X1 x0 x1 (HT x2 x3) (WB x4 x5)) _ hinv _ h12 hcov) ?_
    refine pieces_cons (code 24 (by decide) arg7 harg7 arg12 x6 (X1 x0 x1 (HT x2 x3) (WB x4 x5)) _ hinv _ h12 hcov) ?_
    refine pieces_cons (code 23 (by decide) arg7 harg7 arg12 x6 (X1 x0 x1 (HT x2 x3) (WB x4 x5)) _ hinv _ h12 hcov) ?_
    refine pieces_cons (code 22 (by decide) arg7 harg7 arg12 x6 (X1 x0 x1 (HT x2 x3) (WB x4 x5)) _ hinv _ h12 hcov) ?_
    refine pieces_cons (code 21 (by decide) arg7 harg7 arg12 x6 (X1 x0 x1 (HT x2 x3) (WB x4 x5)) _ hinv _ h12 hcov) ?_
    refine pieces_cons (code 20 (by decide) arg7 harg7 arg12 x6 (X1 x0 x1 (HT x2 x3) (WB x4 x5)) _ hinv _ h12 hcov) ?_
    refine pieces_cons (code 19 (by decide) arg7 harg7 arg12 x6 (X1 x0 x1 (HT x2 x3) (WB x4 x5)) _ hinv _ h12 hcov) ?_
    refine pieces_cons (code 18 (by decide) arg7 harg7 arg12 x6 (X1 x0 x1 (HT x2 x3) (WB x4 x5)) _ hinv _ h12 hcov) ?_
    refine pieces_cons (code 17 (by decide) arg7 harg7 arg12 x6 (X1 x0 x1 (HT x2 x3) (WB x4 x5)) _ hinv _ h12 hcov) ?_
    refine pieces_cons (code 16 (by decide) arg7 harg7 arg12 x6 (X1 x0 x1 (HT x2 x3) (WB x4 x5)) _ hinv _ h12 hcov) ?_
    refine pieces_cons (code 15 (by decide) arg7 harg7 arg12 x6 (X1 x0 x1 (HT x2 x3) (WB x4 x5)) _ hinv _ h12 hcov) ?_
    refine pieces_cons (code 14 (by decide) arg7 harg7 arg12 x6 (X1 x0 x1 (HT x2 x3) (WB x4 x5)) _ hinv _ h12 hcov) ?_
    refine pieces_cons (code 13 (by decide) arg7 harg7 arg12 x6 (X1 x0 x1 (HT x2 x3) (WB x4 x5)) _ hinv _ h12 hcov) ?_
    refine pieces_cons (code 12 (by decide) arg7 harg7 arg12 x6 (X1 x0 x1 (HT x2 x3) (WB x4 x5)) _ hinv _ h12 hcov) ?_
    refine pieces_cons (code 11 (by decide) arg7 harg7 arg12 x6 (X1 x0 x1 (HT x2 x3) (WB x4 x5)) _ hinv _ h12 hcov) ?_
    refine pieces_cons (code 10 (by decide) arg7 harg7 arg12 x6 (X1 x0 x1 (HT x2 x3) (WB x4 x5)) _ hinv _ h12 hcov) ?_
    refine pieces_cons (code 9 (by decide) arg7 harg7 arg12 x6 (X1 x0 x1 (HT x2 x3) (WB x4 x5)) _ hinv _ h12 hcov) ?_
    refine pieces_cons (code 8 (by decide) arg7 harg7 arg12 x6 (X1 x0 x1 (HT x2 x3) (WB x4 x5)) _ hinv _ h12 hcov) ?_
    refine pieces_cons (code 7 (by decide) arg7 harg7 arg12 x6 (X1 x0 x1 (HT x2 x3) (WB x4 x5)) _ hinv _ h12 hcov) ?_
    refine pieces_cons (code 6 (by decide) arg7 harg7 arg12 x6 (X1 x0 x1 (HT x2 x3) (WB x4 x5)) _ hinv _ h12 hcov) ?_
    refine pieces_cons (code 5 (by decide) arg7 harg7 arg12 x6 (X1 x0 x1 (HT x2 x3) (WB x4 x5)) _ hinv _ h12 hcov) ?_
    refine pieces_cons (code 4 (by decide) arg7 harg7 arg12 x6 (X1 x0 x1 (HT x2 x3) (WB x4 x5)) _ hinv _ h12 hcov) ?_
    refine pieces_cons (code 3 (by decide) arg7 harg7 arg12 x6 (X1 x0 x1 (HT x2 x3) (WB x4 x5)) _ hinv _ h12 hcov) ?_
    refine pieces_cons (code 2 (by decide) arg7 harg7 arg12 x6 (X1 x0 x1 (HT x2 x3) (WB x4 x5)) _ hinv _ h12 hcov) ?_
    refine pieces_cons (code 1 (by decide) arg7 harg7 arg12 x6 (X1 x0 x1 (HT x2 x3) (WB x4 x5)) _ hinv _ h12 hcov) ?_
    refine pieces_cons (code 0 (by decide) arg7 harg7 arg12 x6 (X1 x0 x1 (HT x2 x3) (WB x4 x5)) _ hinv _ h12 hcov) ?_
    exact pieces_nil
  isplitl [H9]
  · iexists _; isplitr; swap; · iexact H9
    ipureintro
    refine read_of_pieces arg10.view _ _ _ (pieces_cons (scales_out _ _ (scale_step 55 (by decide) arg7 harg7 arg12 x6 (X1 x0 x1 (HT x2 x3) (WB x4 x5)) _ hinv _ h12 hcov _ (by decide) _ (scale_step 54 (by decide) arg7 harg7 arg12 x6 (X1 x0 x1 (HT x2 x3) (WB x4 x5)) _ hinv _ h12 hcov _ (by decide) _ (scale_step 53 (by decide) arg7 harg7 arg12 x6 (X1 x0 x1 (HT x2 x3) (WB x4 x5)) _ hinv _ h12 hcov _ (by decide) _ (scale_step 52 (by decide) arg7 harg7 arg12 x6 (X1 x0 x1 (HT x2 x3) (WB x4 x5)) _ hinv _ h12 hcov _ (by decide) _ (scale_step 51 (by decide) arg7 harg7 arg12 x6 (X1 x0 x1 (HT x2 x3) (WB x4 x5)) _ hinv _ h12 hcov _ (by decide) _ (scale_step 50 (by decide) arg7 harg7 arg12 x6 (X1 x0 x1 (HT x2 x3) (WB x4 x5)) _ hinv _ h12 hcov _ (by decide) _ (scale_step 49 (by decide) arg7 harg7 arg12 x6 (X1 x0 x1 (HT x2 x3) (WB x4 x5)) _ hinv _ h12 hcov _ (by decide) _ (scale_step 48 (by decide) arg7 harg7 arg12 x6 (X1 x0 x1 (HT x2 x3) (WB x4 x5)) _ hinv _ h12 hcov _ (by decide) _ (scale_step 47 (by decide) arg7 harg7 arg12 x6 (X1 x0 x1 (HT x2 x3) (WB x4 x5)) _ hinv _ h12 hcov _ (by decide) _ (scale_step 46 (by decide) arg7 harg7 arg12 x6 (X1 x0 x1 (HT x2 x3) (WB x4 x5)) _ hinv _ h12 hcov _ (by decide) _ (scale_step 45 (by decide) arg7 harg7 arg12 x6 (X1 x0 x1 (HT x2 x3) (WB x4 x5)) _ hinv _ h12 hcov _ (by decide) _ (scale_step 44 (by decide) arg7 harg7 arg12 x6 (X1 x0 x1 (HT x2 x3) (WB x4 x5)) _ hinv _ h12 hcov _ (by decide) _ (scale_step 43 (by decide) arg7 harg7 arg12 x6 (X1 x0 x1 (HT x2 x3) (WB x4 x5)) _ hinv _ h12 hcov _ (by decide) _ (scale_step 42 (by decide) arg7 harg7 arg12 x6 (X1 x0 x1 (HT x2 x3) (WB x4 x5)) _ hinv _ h12 hcov _ (by decide) _ (scale_step 41 (by decide) arg7 harg7 arg12 x6 (X1 x0 x1 (HT x2 x3) (WB x4 x5)) _ hinv _ h12 hcov _ (by decide) _ (scale_step 40 (by decide) arg7 harg7 arg12 x6 (X1 x0 x1 (HT x2 x3) (WB x4 x5)) _ hinv _ h12 hcov _ (by decide) _ (scale_step 39 (by decide) arg7 harg7 arg12 x6 (X1 x0 x1 (HT x2 x3) (WB x4 x5)) _ hinv _ h12 hcov _ (by decide) _ (scale_step 38 (by decide) arg7 harg7 arg12 x6 (X1 x0 x1 (HT x2 x3) (WB x4 x5)) _ hinv _ h12 hcov _ (by decide) _ (scale_step 37 (by decide) arg7 harg7 arg12 x6 (X1 x0 x1 (HT x2 x3) (WB x4 x5)) _ hinv _ h12 hcov _ (by decide) _ (scale_step 36 (by decide) arg7 harg7 arg12 x6 (X1 x0 x1 (HT x2 x3) (WB x4 x5)) _ hinv _ h12 hcov _ (by decide) _ (scale_step 35 (by decide) arg7 harg7 arg12 x6 (X1 x0 x1 (HT x2 x3) (WB x4 x5)) _ hinv _ h12 hcov _ (by decide) _ (scale_step 34 (by decide) arg7 harg7 arg12 x6 (X1 x0 x1 (HT x2 x3) (WB x4 x5)) _ hinv _ h12 hcov _ (by decide) _ (scale_step 33 (by decide) arg7 harg7 arg12 x6 (X1 x0 x1 (HT x2 x3) (WB x4 x5)) _ hinv _ h12 hcov _ (by decide) _ (scale_step 32 (by decide) arg7 harg7 arg12 x6 (X1 x0 x1 (HT x2 x3) (WB x4 x5)) _ hinv _ h12 hcov _ (by decide) _ (scale_step 31 (by decide) arg7 harg7 arg12 x6 (X1 x0 x1 (HT x2 x3) (WB x4 x5)) _ hinv _ h12 hcov _ (by decide) _ (scale_step 30 (by decide) arg7 harg7 arg12 x6 (X1 x0 x1 (HT x2 x3) (WB x4 x5)) _ hinv _ h12 hcov _ (by decide) _ (scale_step 29 (by decide) arg7 harg7 arg12 x6 (X1 x0 x1 (HT x2 x3) (WB x4 x5)) _ hinv _ h12 hcov _ (by decide) _ (scale_step 28 (by decide) arg7 harg7 arg12 x6 (X1 x0 x1 (HT x2 x3) (WB x4 x5)) _ hinv _ h12 hcov _ (by decide) _ (scale_step 27 (by decide) arg7 harg7 arg12 x6 (X1 x0 x1 (HT x2 x3) (WB x4 x5)) _ hinv _ h12 hcov _ (by decide) _ (scale_step 26 (by decide) arg7 harg7 arg12 x6 (X1 x0 x1 (HT x2 x3) (WB x4 x5)) _ hinv _ h12 hcov _ (by decide) _ (scale_step 25 (by decide) arg7 harg7 arg12 x6 (X1 x0 x1 (HT x2 x3) (WB x4 x5)) _ hinv _ h12 hcov _ (by decide) _ (scale_step 24 (by decide) arg7 harg7 arg12 x6 (X1 x0 x1 (HT x2 x3) (WB x4 x5)) _ hinv _ h12 hcov _ (by decide) _ (scale_step 23 (by decide) arg7 harg7 arg12 x6 (X1 x0 x1 (HT x2 x3) (WB x4 x5)) _ hinv _ h12 hcov _ (by decide) _ (scale_step 22 (by decide) arg7 harg7 arg12 x6 (X1 x0 x1 (HT x2 x3) (WB x4 x5)) _ hinv _ h12 hcov _ (by decide) _ (scale_step 21 (by decide) arg7 harg7 arg12 x6 (X1 x0 x1 (HT x2 x3) (WB x4 x5)) _ hinv _ h12 hcov _ (by decide) _ (scale_step 20 (by decide) arg7 harg7 arg12 x6 (X1 x0 x1 (HT x2 x3) (WB x4 x5)) _ hinv _ h12 hcov _ (by decide) _ (scale_step 19 (by decide) arg7 harg7 arg12 x6 (X1 x0 x1 (HT x2 x3) (WB x4 x5)) _ hinv _ h12 hcov _ (by decide) _ (scale_step 18 (by decide) arg7 harg7 arg12 x6 (X1 x0 x1 (HT x2 x3) (WB x4 x5)) _ hinv _ h12 hcov _ (by decide) _ (scale_step 17 (by decide) arg7 harg7 arg12 x6 (X1 x0 x1 (HT x2 x3) (WB x4 x5)) _ hinv _ h12 hcov _ (by decide) _ (scale_step 16 (by decide) arg7 harg7 arg12 x6 (X1 x0 x1 (HT x2 x3) (WB x4 x5)) _ hinv _ h12 hcov _ (by decide) _ (scale_step 15 (by decide) arg7 harg7 arg12 x6 (X1 x0 x1 (HT x2 x3) (WB x4 x5)) _ hinv _ h12 hcov _ (by decide) _ (scale_step 14 (by decide) arg7 harg7 arg12 x6 (X1 x0 x1 (HT x2 x3) (WB x4 x5)) _ hinv _ h12 hcov _ (by decide) _ (scale_step 13 (by decide) arg7 harg7 arg12 x6 (X1 x0 x1 (HT x2 x3) (WB x4 x5)) _ hinv _ h12 hcov _ (by decide) _ (scale_step 12 (by decide) arg7 harg7 arg12 x6 (X1 x0 x1 (HT x2 x3) (WB x4 x5)) _ hinv _ h12 hcov _ (by decide) _ (scale_step 11 (by decide) arg7 harg7 arg12 x6 (X1 x0 x1 (HT x2 x3) (WB x4 x5)) _ hinv _ h12 hcov _ (by decide) _ (scale_step 10 (by decide) arg7 harg7 arg12 x6 (X1 x0 x1 (HT x2 x3) (WB x4 x5)) _ hinv _ h12 hcov _ (by decide) _ (scale_step 9 (by decide) arg7 harg7 arg12 x6 (X1 x0 x1 (HT x2 x3) (WB x4 x5)) _ hinv _ h12 hcov _ (by decide) _ (scale_step 8 (by decide) arg7 harg7 arg12 x6 (X1 x0 x1 (HT x2 x3) (WB x4 x5)) _ hinv _ h12 hcov _ (by decide) _ (scale_step 7 (by decide) arg7 harg7 arg12 x6 (X1 x0 x1 (HT x2 x3) (WB x4 x5)) _ hinv _ h12 hcov _ (by decide) _ (scale_step 6 (by decide) arg7 harg7 arg12 x6 (X1 x0 x1 (HT x2 x3) (WB x4 x5)) _ hinv _ h12 hcov _ (by decide) _ (scale_step 5 (by decide) arg7 harg7 arg12 x6 (X1 x0 x1 (HT x2 x3) (WB x4 x5)) _ hinv _ h12 hcov _ (by decide) _ (scale_step 4 (by decide) arg7 harg7 arg12 x6 (X1 x0 x1 (HT x2 x3) (WB x4 x5)) _ hinv _ h12 hcov _ (by decide) _ (scale_step 3 (by decide) arg7 harg7 arg12 x6 (X1 x0 x1 (HT x2 x3) (WB x4 x5)) _ hinv _ h12 hcov _ (by decide) _ (scale_step 2 (by decide) arg7 harg7 arg12 x6 (X1 x0 x1 (HT x2 x3) (WB x4 x5)) _ hinv _ h12 hcov _ (by decide) _ (scale_step 1 (by decide) arg7 harg7 arg12 x6 (X1 x0 x1 (HT x2 x3) (WB x4 x5)) _ hinv _ h12 hcov _ (by decide) _ (scale_step 0 (by decide) arg7 harg7 arg12 x6 (X1 x0 x1 (HT x2 x3) (WB x4 x5)) _ hinv _ h12 hcov _ (by decide) _ (fun r l hl => absurd hl (Nat.not_lt_zero _))))))))))))))))))))))))))))))))))))))))))))))))))))))))))) pieces_nil) (View.cover_of_tiledL _ S56x128.size (by sl_kernel_rfl))
  isplitl [HS0]
  · iexists _; isplitr; swap; · iexact HS0
    ipureintro; exact h11
  iexists _, _; isplitr; swap; · iexact HS1
  ipureintro; rfl

end Cert.NormIdeal.Norm

end
-- ==== Proof.Norm.BodyB.lean ====
/- The later grid points of the dense1 call: the tile is computed from the weights already widened. -/
module

public import proofs.«01_k».proof.Proof.Norm.Tiles
public import Idealize.ShloMosaic.PureOps.Ideal
public import Idealize.ShloMosaic.Lib.Pipeline.ValueKit
public import Idealize.ShloMosaic.Lib.Pipeline.ReadBack

@[expose] public section

set_option maxRecDepth 16384

noncomputable section

namespace Cert.NormIdeal.Norm

open Cert.NormIdeal Cert.NormIdeal.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 8000000 in
theorem run_B (c : Dev nD) (i : grid0.Coords) (arg1 : Memref sig .tc .vmem S128x7168 .bf16) (harg1 : arg1.IsWhole) (arg2 : Memref sig .tc .vmem S128x7168 .f32) (harg2 : arg2.IsWhole) (arg3 : Memref sig .tc .vmem S128x2048 .fp8e4m3) (harg3 : arg3.IsWhole) (arg4 : Memref sig .tc .vmem S16x128 .f32) (harg4 : arg4.IsWhole) (arg5 : Memref sig .tc .vmem S2048x7168 .fp8e4m3) (harg5 : arg5.IsWhole) (arg6 : Memref sig .tc .vmem S16x7168 .f32) (harg6 : arg6.IsWhole) (arg7 : Memref sig .tc .vmem S1x7168 .f32) (harg7 : arg7.IsWhole) (arg8 : Memref sig .tc .vmem S128x7168 .bf16) (harg8 : arg8.IsWhole) (arg9 : Memref sig .tc .vmem S128x7168 .fp8e4m3) (harg9 : arg9.IsWhole) (arg10 : Memref sig .tc .vmem S56x128 .f32) (harg10 : arg10.IsWhole) (arg11 : Memref sig .tc .vmem S2048x7168 .bf16) (harg11 : arg11.IsWhole) (arg12 : Memref sig .tc .vmem S128x7168 .f32) (harg12 : arg12.IsWhole) (hc0 : ¬cond0_0 i)
    (x0 : Vec Ideal S128x7168 .bf16) (x1 : Vec Ideal S128x7168 .f32) (x2 : Vec Ideal S128x2048 .fp8e4m3) (x3 : Vec Ideal S16x128 .f32) (x4 : Vec Ideal S2048x7168 .fp8e4m3) (x5 : Vec Ideal S16x7168 .f32) (x6 : Vec Ideal S1x7168 .f32) (W : Vec Ideal S2048x7168 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare W ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (XO x0 x1 (HT x2 x3) W) ∗ owns (c : Thread nD τ) arg9 fullShare (CODES (NV (X1 x0 x1 (HT x2 x3) W) x6)) ∗ owns (c : Thread nD τ) arg10 fullShare (SC (NV (X1 x0 x1 (HT x2 x3) W) x6)) ∗ owns (c : Thread nD τ) arg11 fullShare W ∗ (∃ d, owns (c : Thread nD τ) arg12 fullShare d)) -∗ K ⟨⟩))
      ⊢ wp frame (wpE (defs₀ (F := Ideal)) Variants.none c none) E (cc0_dense1 i arg1 harg1 arg2 harg2 arg3 harg3 arg4 harg4 arg5 harg5 arg6 harg6 arg7 harg7 arg8 harg8 arg9 harg9 arg10 harg10 arg11 harg11 arg12 harg12) K := by
  simp only [cc0_dense1_eq_skeleton]; unfold cc0_dense1_skel
  simp only [k0_part90_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %h11, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  have hH : run_B.sl.v73 c arg3 harg3 arg4 harg4 x2 x3 = HT x2 x3 := hidden (inb3 := by decide) (inb4 := by decide) arg3 harg3 arg4 harg4 x2 x3
  have h12 : View.PiecesOf (X1 x0 x1 (HT x2 x3) W) (run_B.sl.HS1_28 c arg1 harg1 arg2 harg2 arg3 harg3 arg4 harg4 arg11 x0 x1 x2 x3 fs0) := by
    repeat (first | exact pieces_nil | refine pieces_cons (x1_kept arg1 harg1 arg2 harg2 arg11 fs0 x0 x1 (HT x2 x3) W _ hH h11) ?_)
  have hcov : ∀ y : S128x7168.Idx, ∃ p ∈ run_B.sl.HS1_28 c arg1 harg1 arg2 harg2 arg3 harg3 arg4 harg4 arg11 x0 x1 x2 x3 fs0, y ∈ p.1.set := View.cover_of_tiledL _ S128x256.size (by sl_kernel_rfl)
  have hinv : run_B.sl.v643 c arg1 harg1 arg2 harg2 arg3 harg3 arg4 harg4 arg11 x0 x1 x2 x3 fs0 = INV (X1 x0 x1 (HT x2 x3) W) :=
    inverse _ _ (lane_step 54 arg1 harg1 arg2 harg2 arg11 fs0 x0 x1 (HT x2 x3) W _ hH h11 (by decide) _ (lane_step 52 arg1 harg1 arg2 harg2 arg11 fs0 x0 x1 (HT x2 x3) W _ hH h11 (by decide) _ (lane_step 50 arg1 harg1 arg2 harg2 arg11 fs0 x0 x1 (HT x2 x3) W _ hH h11 (by decide) _ (lane_step 48 arg1 harg1 arg2 harg2 arg11 fs0 x0 x1 (HT x2 x3) W _ hH h11 (by decide) _ (lane_step 46 arg1 harg1 arg2 harg2 arg11 fs0 x0 x1 (HT x2 x3) W _ hH h11 (by decide) _ (lane_step 44 arg1 harg1 arg2 harg2 arg11 fs0 x0 x1 (HT x2 x3) W _ hH h11 (by decide) _ (lane_step 42 arg1 harg1 arg2 harg2 arg11 fs0 x0 x1 (HT x2 x3) W _ hH h11 (by decide) _ (lane_step 40 arg1 harg1 arg2 harg2 arg11 fs0 x0 x1 (HT x2 x3) W _ hH h11 (by decide) _ (lane_step 38 arg1 harg1 arg2 harg2 arg11 fs0 x0 x1 (HT x2 x3) W _ hH h11 (by decide) _ (lane_step 36 arg1 harg1 arg2 harg2 arg11 fs0 x0 x1 (HT x2 x3) W _ hH h11 (by decide) _ (lane_step 34 arg1 harg1 arg2 harg2 arg11 fs0 x0 x1 (HT x2 x3) W _ hH h11 (by decide) _ (lane_step 32 arg1 harg1 arg2 harg2 arg11 fs0 x0 x1 (HT x2 x3) W _ hH h11 (by decide) _ (lane_step 30 arg1 harg1 arg2 harg2 arg11 fs0 x0 x1 (HT x2 x3) W _ hH h11 (by decide) _ (lane_step 28 arg1 harg1 arg2 harg2 arg11 fs0 x0 x1 (HT x2 x3) W _ hH h11 (by decide) _ (lane_step 26 arg1 harg1 arg2 harg2 arg11 fs0 x0 x1 (HT x2 x3) W _ hH h11 (by decide) _ (lane_step 24 arg1 harg1 arg2 harg2 arg11 fs0 x0 x1 (HT x2 x3) W _ hH h11 (by decide) _ (lane_step 22 arg1 harg1 arg2 harg2 arg11 fs0 x0 x1 (HT x2 x3) W _ hH h11 (by decide) _ (lane_step 20 arg1 harg1 arg2 harg2 arg11 fs0 x0 x1 (HT x2 x3) W _ hH h11 (by decide) _ (lane_step 18 arg1 harg1 arg2 harg2 arg11 fs0 x0 x1 (HT x2 x3) W _ hH h11 (by decide) _ (lane_step 16 arg1 harg1 arg2 harg2 arg11 fs0 x0 x1 (HT x2 x3) W _ hH h11 (by decide) _ (lane_step 14 arg1 harg1 arg2 harg2 arg11 fs0 x0 x1 (HT x2 x3) W _ hH h11 (by decide) _ (lane_step 12 arg1 harg1 arg2 harg2 arg11 fs0 x0 x1 (HT x2 x3) W _ hH h11 (by decide) _ (lane_step 10 arg1 harg1 arg2 harg2 arg11 fs0 x0 x1 (HT x2 x3) W _ hH h11 (by decide) _ (lane_step 8 arg1 harg1 arg2 harg2 arg11 fs0 x0 x1 (HT x2 x3) W _ hH h11 (by decide) _ (lane_step 6 arg1 harg1 arg2 harg2 arg11 fs0 x0 x1 (HT x2 x3) W _ hH h11 (by decide) _ (lane_step 4 arg1 harg1 arg2 harg2 arg11 fs0 x0 x1 (HT x2 x3) W _ hH h11 (by decide) _ (lane_step 2 arg1 harg1 arg2 harg2 arg11 fs0 x0 x1 (HT x2 x3) W _ hH h11 (by decide) _ (lane_step 0 arg1 harg1 arg2 harg2 arg11 fs0 x0 x1 (HT x2 x3) W _ hH h11 (by decide) _ (lane_start _)))))))))))))))))))))))))))))
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine read_of_pieces arg8.view _ _ _ ?_ (View.cover_of_tiledL _ S128x256.size (by sl_kernel_rfl))
    repeat (first | exact pieces_nil | refine pieces_cons (x1_out arg1 harg1 arg2 harg2 arg11 fs0 x0 x1 (HT x2 x3) W _ hH h11) ?_)
  isplitl [H8]
  · iexists _; isplitr; swap; · iexact H8
    ipureintro
    refine read_of_pieces arg9.view _ _ _ ?_ (View.cover_of_tiledL _ S128x128.size (by sl_kernel_rfl))
    refine pieces_cons (code 55 (by decide) arg7 harg7 arg12 x6 (X1 x0 x1 (HT x2 x3) W) _ hinv _ h12 hcov) ?_
    refine pieces_cons (code 54 (by decide) arg7 harg7 arg12 x6 (X1 x0 x1 (HT x2 x3) W) _ hinv _ h12 hcov) ?_
    refine pieces_cons (code 53 (by decide) arg7 harg7 arg12 x6 (X1 x0 x1 (HT x2 x3) W) _ hinv _ h12 hcov) ?_
    refine pieces_cons (code 52 (by decide) arg7 harg7 arg12 x6 (X1 x0 x1 (HT x2 x3) W) _ hinv _ h12 hcov) ?_
    refine pieces_cons (code 51 (by decide) arg7 harg7 arg12 x6 (X1 x0 x1 (HT x2 x3) W) _ hinv _ h12 hcov) ?_
    refine pieces_cons (code 50 (by decide) arg7 harg7 arg12 x6 (X1 x0 x1 (HT x2 x3) W) _ hinv _ h12 hcov) ?_
    refine pieces_cons (code 49 (by decide) arg7 harg7 arg12 x6 (X1 x0 x1 (HT x2 x3) W) _ hinv _ h12 hcov) ?_
    refine pieces_cons (code 48 (by decide) arg7 harg7 arg12 x6 (X1 x0 x1 (HT x2 x3) W) _ hinv _ h12 hcov) ?_
    refine pieces_cons (code 47 (by decide) arg7 harg7 arg12 x6 (X1 x0 x1 (HT x2 x3) W) _ hinv _ h12 hcov) ?_
    refine pieces_cons (code 46 (by decide) arg7 harg7 arg12 x6 (X1 x0 x1 (HT x2 x3) W) _ hinv _ h12 hcov) ?_
    refine pieces_cons (code 45 (by decide) arg7 harg7 arg12 x6 (X1 x0 x1 (HT x2 x3) W) _ hinv _ h12 hcov) ?_
    refine pieces_cons (code 44 (by decide) arg7 harg7 arg12 x6 (X1 x0 x1 (HT x2 x3) W) _ hinv _ h12 hcov) ?_
    refine pieces_cons (code 43 (by decide) arg7 harg7 arg12 x6 (X1 x0 x1 (HT x2 x3) W) _ hinv _ h12 hcov) ?_
    refine pieces_cons (code 42 (by decide) arg7 harg7 arg12 x6 (X1 x0 x1 (HT x2 x3) W) _ hinv _ h12 hcov) ?_
    refine pieces_cons (code 41 (by decide) arg7 harg7 arg12 x6 (X1 x0 x1 (HT x2 x3) W) _ hinv _ h12 hcov) ?_
    refine pieces_cons (code 40 (by decide) arg7 harg7 arg12 x6 (X1 x0 x1 (HT x2 x3) W) _ hinv _ h12 hcov) ?_
    refine pieces_cons (code 39 (by decide) arg7 harg7 arg12 x6 (X1 x0 x1 (HT x2 x3) W) _ hinv _ h12 hcov) ?_
    refine pieces_cons (code 38 (by decide) arg7 harg7 arg12 x6 (X1 x0 x1 (HT x2 x3) W) _ hinv _ h12 hcov) ?_
    refine pieces_cons (code 37 (by decide) arg7 harg7 arg12 x6 (X1 x0 x1 (HT x2 x3) W) _ hinv _ h12 hcov) ?_
    refine pieces_cons (code 36 (by decide) arg7 harg7 arg12 x6 (X1 x0 x1 (HT x2 x3) W) _ hinv _ h12 hcov) ?_
    refine pieces_cons (code 35 (by decide) arg7 harg7 arg12 x6 (X1 x0 x1 (HT x2 x3) W) _ hinv _ h12 hcov) ?_
    refine pieces_cons (code 34 (by decide) arg7 harg7 arg12 x6 (X1 x0 x1 (HT x2 x3) W) _ hinv _ h12 hcov) ?_
    refine pieces_cons (code 33 (by decide) arg7 harg7 arg12 x6 (X1 x0 x1 (HT x2 x3) W) _ hinv _ h12 hcov) ?_
    refine pieces_cons (code 32 (by decide) arg7 harg7 arg12 x6 (X1 x0 x1 (HT x2 x3) W) _ hinv _ h12 hcov) ?_
    refine pieces_cons (code 31 (by decide) arg7 harg7 arg12 x6 (X1 x0 x1 (HT x2 x3) W) _ hinv _ h12 hcov) ?_
    refine pieces_cons (code 30 (by decide) arg7 harg7 arg12 x6 (X1 x0 x1 (HT x2 x3) W) _ hinv _ h12 hcov) ?_
    refine pieces_cons (code 29 (by decide) arg7 harg7 arg12 x6 (X1 x0 x1 (HT x2 x3) W) _ hinv _ h12 hcov) ?_
    refine pieces_cons (code 28 (by decide) arg7 harg7 arg12 x6 (X1 x0 x1 (HT x2 x3) W) _ hinv _ h12 hcov) ?_
    refine pieces_cons (code 27 (by decide) arg7 harg7 arg12 x6 (X1 x0 x1 (HT x2 x3) W) _ hinv _ h12 hcov) ?_
    refine pieces_cons (code 26 (by decide) arg7 harg7 arg12 x6 (X1 x0 x1 (HT x2 x3) W) _ hinv _ h12 hcov) ?_
    refine pieces_cons (code 25 (by decide) arg7 harg7 arg12 x6 (X1 x0 x1 (HT x2 x3) W) _ hinv _ h12 hcov) ?_
    refine pieces_cons (code 24 (by decide) arg7 harg7 arg12 x6 (X1 x0 x1 (HT x2 x3) W) _ hinv _ h12 hcov) ?_
    refine pieces_cons (code 23 (by decide) arg7 harg7 arg12 x6 (X1 x0 x1 (HT x2 x3) W) _ hinv _ h12 hcov) ?_
    refine pieces_cons (code 22 (by decide) arg7 harg7 arg12 x6 (X1 x0 x1 (HT x2 x3) W) _ hinv _ h12 hcov) ?_
    refine pieces_cons (code 21 (by decide) arg7 harg7 arg12 x6 (X1 x0 x1 (HT x2 x3) W) _ hinv _ h12 hcov) ?_
    refine pieces_cons (code 20 (by decide) arg7 harg7 arg12 x6 (X1 x0 x1 (HT x2 x3) W) _ hinv _ h12 hcov) ?_
    refine pieces_cons (code 19 (by decide) arg7 harg7 arg12 x6 (X1 x0 x1 (HT x2 x3) W) _ hinv _ h12 hcov) ?_
    refine pieces_cons (code 18 (by decide) arg7 harg7 arg12 x6 (X1 x0 x1 (HT x2 x3) W) _ hinv _ h12 hcov) ?_
    refine pieces_cons (code 17 (by decide) arg7 harg7 arg12 x6 (X1 x0 x1 (HT x2 x3) W) _ hinv _ h12 hcov) ?_
    refine pieces_cons (code 16 (by decide) arg7 harg7 arg12 x6 (X1 x0 x1 (HT x2 x3) W) _ hinv _ h12 hcov) ?_
    refine pieces_cons (code 15 (by decide) arg7 harg7 arg12 x6 (X1 x0 x1 (HT x2 x3) W) _ hinv _ h12 hcov) ?_
    refine pieces_cons (code 14 (by decide) arg7 harg7 arg12 x6 (X1 x0 x1 (HT x2 x3) W) _ hinv _ h12 hcov) ?_
    refine pieces_cons (code 13 (by decide) arg7 harg7 arg12 x6 (X1 x0 x1 (HT x2 x3) W) _ hinv _ h12 hcov) ?_
    refine pieces_cons (code 12 (by decide) arg7 harg7 arg12 x6 (X1 x0 x1 (HT x2 x3) W) _ hinv _ h12 hcov) ?_
    refine pieces_cons (code 11 (by decide) arg7 harg7 arg12 x6 (X1 x0 x1 (HT x2 x3) W) _ hinv _ h12 hcov) ?_
    refine pieces_cons (code 10 (by decide) arg7 harg7 arg12 x6 (X1 x0 x1 (HT x2 x3) W) _ hinv _ h12 hcov) ?_
    refine pieces_cons (code 9 (by decide) arg7 harg7 arg12 x6 (X1 x0 x1 (HT x2 x3) W) _ hinv _ h12 hcov) ?_
    refine pieces_cons (code 8 (by decide) arg7 harg7 arg12 x6 (X1 x0 x1 (HT x2 x3) W) _ hinv _ h12 hcov) ?_
    refine pieces_cons (code 7 (by decide) arg7 harg7 arg12 x6 (X1 x0 x1 (HT x2 x3) W) _ hinv _ h12 hcov) ?_
    refine pieces_cons (code 6 (by decide) arg7 harg7 arg12 x6 (X1 x0 x1 (HT x2 x3) W) _ hinv _ h12 hcov) ?_
    refine pieces_cons (code 5 (by decide) arg7 harg7 arg12 x6 (X1 x0 x1 (HT x2 x3) W) _ hinv _ h12 hcov) ?_
    refine pieces_cons (code 4 (by decide) arg7 harg7 arg12 x6 (X1 x0 x1 (HT x2 x3) W) _ hinv _ h12 hcov) ?_
    refine pieces_cons (code 3 (by decide) arg7 harg7 arg12 x6 (X1 x0 x1 (HT x2 x3) W) _ hinv _ h12 hcov) ?_
    refine pieces_cons (code 2 (by decide) arg7 harg7 arg12 x6 (X1 x0 x1 (HT x2 x3) W) _ hinv _ h12 hcov) ?_
    refine pieces_cons (code 1 (by decide) arg7 harg7 arg12 x6 (X1 x0 x1 (HT x2 x3) W) _ hinv _ h12 hcov) ?_
    refine pieces_cons (code 0 (by decide) arg7 harg7 arg12 x6 (X1 x0 x1 (HT x2 x3) W) _ hinv _ h12 hcov) ?_
    exact pieces_nil
  isplitl [H9]
  · iexists _; isplitr; swap; · iexact H9
    ipureintro
    refine read_of_pieces arg10.view _ _ _ (pieces_cons (scales_out _ _ (scale_step 55 (by decide) arg7 harg7 arg12 x6 (X1 x0 x1 (HT x2 x3) W) _ hinv _ h12 hcov _ (by decide) _ (scale_step 54 (by decide) arg7 harg7 arg12 x6 (X1 x0 x1 (HT x2 x3) W) _ hinv _ h12 hcov _ (by decide) _ (scale_step 53 (by decide) arg7 harg7 arg12 x6 (X1 x0 x1 (HT x2 x3) W) _ hinv _ h12 hcov _ (by decide) _ (scale_step 52 (by decide) arg7 harg7 arg12 x6 (X1 x0 x1 (HT x2 x3) W) _ hinv _ h12 hcov _ (by decide) _ (scale_step 51 (by decide) arg7 harg7 arg12 x6 (X1 x0 x1 (HT x2 x3) W) _ hinv _ h12 hcov _ (by decide) _ (scale_step 50 (by decide) arg7 harg7 arg12 x6 (X1 x0 x1 (HT x2 x3) W) _ hinv _ h12 hcov _ (by decide) _ (scale_step 49 (by decide) arg7 harg7 arg12 x6 (X1 x0 x1 (HT x2 x3) W) _ hinv _ h12 hcov _ (by decide) _ (scale_step 48 (by decide) arg7 harg7 arg12 x6 (X1 x0 x1 (HT x2 x3) W) _ hinv _ h12 hcov _ (by decide) _ (scale_step 47 (by decide) arg7 harg7 arg12 x6 (X1 x0 x1 (HT x2 x3) W) _ hinv _ h12 hcov _ (by decide) _ (scale_step 46 (by decide) arg7 harg7 arg12 x6 (X1 x0 x1 (HT x2 x3) W) _ hinv _ h12 hcov _ (by decide) _ (scale_step 45 (by decide) arg7 harg7 arg12 x6 (X1 x0 x1 (HT x2 x3) W) _ hinv _ h12 hcov _ (by decide) _ (scale_step 44 (by decide) arg7 harg7 arg12 x6 (X1 x0 x1 (HT x2 x3) W) _ hinv _ h12 hcov _ (by decide) _ (scale_step 43 (by decide) arg7 harg7 arg12 x6 (X1 x0 x1 (HT x2 x3) W) _ hinv _ h12 hcov _ (by decide) _ (scale_step 42 (by decide) arg7 harg7 arg12 x6 (X1 x0 x1 (HT x2 x3) W) _ hinv _ h12 hcov _ (by decide) _ (scale_step 41 (by decide) arg7 harg7 arg12 x6 (X1 x0 x1 (HT x2 x3) W) _ hinv _ h12 hcov _ (by decide) _ (scale_step 40 (by decide) arg7 harg7 arg12 x6 (X1 x0 x1 (HT x2 x3) W) _ hinv _ h12 hcov _ (by decide) _ (scale_step 39 (by decide) arg7 harg7 arg12 x6 (X1 x0 x1 (HT x2 x3) W) _ hinv _ h12 hcov _ (by decide) _ (scale_step 38 (by decide) arg7 harg7 arg12 x6 (X1 x0 x1 (HT x2 x3) W) _ hinv _ h12 hcov _ (by decide) _ (scale_step 37 (by decide) arg7 harg7 arg12 x6 (X1 x0 x1 (HT x2 x3) W) _ hinv _ h12 hcov _ (by decide) _ (scale_step 36 (by decide) arg7 harg7 arg12 x6 (X1 x0 x1 (HT x2 x3) W) _ hinv _ h12 hcov _ (by decide) _ (scale_step 35 (by decide) arg7 harg7 arg12 x6 (X1 x0 x1 (HT x2 x3) W) _ hinv _ h12 hcov _ (by decide) _ (scale_step 34 (by decide) arg7 harg7 arg12 x6 (X1 x0 x1 (HT x2 x3) W) _ hinv _ h12 hcov _ (by decide) _ (scale_step 33 (by decide) arg7 harg7 arg12 x6 (X1 x0 x1 (HT x2 x3) W) _ hinv _ h12 hcov _ (by decide) _ (scale_step 32 (by decide) arg7 harg7 arg12 x6 (X1 x0 x1 (HT x2 x3) W) _ hinv _ h12 hcov _ (by decide) _ (scale_step 31 (by decide) arg7 harg7 arg12 x6 (X1 x0 x1 (HT x2 x3) W) _ hinv _ h12 hcov _ (by decide) _ (scale_step 30 (by decide) arg7 harg7 arg12 x6 (X1 x0 x1 (HT x2 x3) W) _ hinv _ h12 hcov _ (by decide) _ (scale_step 29 (by decide) arg7 harg7 arg12 x6 (X1 x0 x1 (HT x2 x3) W) _ hinv _ h12 hcov _ (by decide) _ (scale_step 28 (by decide) arg7 harg7 arg12 x6 (X1 x0 x1 (HT x2 x3) W) _ hinv _ h12 hcov _ (by decide) _ (scale_step 27 (by decide) arg7 harg7 arg12 x6 (X1 x0 x1 (HT x2 x3) W) _ hinv _ h12 hcov _ (by decide) _ (scale_step 26 (by decide) arg7 harg7 arg12 x6 (X1 x0 x1 (HT x2 x3) W) _ hinv _ h12 hcov _ (by decide) _ (scale_step 25 (by decide) arg7 harg7 arg12 x6 (X1 x0 x1 (HT x2 x3) W) _ hinv _ h12 hcov _ (by decide) _ (scale_step 24 (by decide) arg7 harg7 arg12 x6 (X1 x0 x1 (HT x2 x3) W) _ hinv _ h12 hcov _ (by decide) _ (scale_step 23 (by decide) arg7 harg7 arg12 x6 (X1 x0 x1 (HT x2 x3) W) _ hinv _ h12 hcov _ (by decide) _ (scale_step 22 (by decide) arg7 harg7 arg12 x6 (X1 x0 x1 (HT x2 x3) W) _ hinv _ h12 hcov _ (by decide) _ (scale_step 21 (by decide) arg7 harg7 arg12 x6 (X1 x0 x1 (HT x2 x3) W) _ hinv _ h12 hcov _ (by decide) _ (scale_step 20 (by decide) arg7 harg7 arg12 x6 (X1 x0 x1 (HT x2 x3) W) _ hinv _ h12 hcov _ (by decide) _ (scale_step 19 (by decide) arg7 harg7 arg12 x6 (X1 x0 x1 (HT x2 x3) W) _ hinv _ h12 hcov _ (by decide) _ (scale_step 18 (by decide) arg7 harg7 arg12 x6 (X1 x0 x1 (HT x2 x3) W) _ hinv _ h12 hcov _ (by decide) _ (scale_step 17 (by decide) arg7 harg7 arg12 x6 (X1 x0 x1 (HT x2 x3) W) _ hinv _ h12 hcov _ (by decide) _ (scale_step 16 (by decide) arg7 harg7 arg12 x6 (X1 x0 x1 (HT x2 x3) W) _ hinv _ h12 hcov _ (by decide) _ (scale_step 15 (by decide) arg7 harg7 arg12 x6 (X1 x0 x1 (HT x2 x3) W) _ hinv _ h12 hcov _ (by decide) _ (scale_step 14 (by decide) arg7 harg7 arg12 x6 (X1 x0 x1 (HT x2 x3) W) _ hinv _ h12 hcov _ (by decide) _ (scale_step 13 (by decide) arg7 harg7 arg12 x6 (X1 x0 x1 (HT x2 x3) W) _ hinv _ h12 hcov _ (by decide) _ (scale_step 12 (by decide) arg7 harg7 arg12 x6 (X1 x0 x1 (HT x2 x3) W) _ hinv _ h12 hcov _ (by decide) _ (scale_step 11 (by decide) arg7 harg7 arg12 x6 (X1 x0 x1 (HT x2 x3) W) _ hinv _ h12 hcov _ (by decide) _ (scale_step 10 (by decide) arg7 harg7 arg12 x6 (X1 x0 x1 (HT x2 x3) W) _ hinv _ h12 hcov _ (by decide) _ (scale_step 9 (by decide) arg7 harg7 arg12 x6 (X1 x0 x1 (HT x2 x3) W) _ hinv _ h12 hcov _ (by decide) _ (scale_step 8 (by decide) arg7 harg7 arg12 x6 (X1 x0 x1 (HT x2 x3) W) _ hinv _ h12 hcov _ (by decide) _ (scale_step 7 (by decide) arg7 harg7 arg12 x6 (X1 x0 x1 (HT x2 x3) W) _ hinv _ h12 hcov _ (by decide) _ (scale_step 6 (by decide) arg7 harg7 arg12 x6 (X1 x0 x1 (HT x2 x3) W) _ hinv _ h12 hcov _ (by decide) _ (scale_step 5 (by decide) arg7 harg7 arg12 x6 (X1 x0 x1 (HT x2 x3) W) _ hinv _ h12 hcov _ (by decide) _ (scale_step 4 (by decide) arg7 harg7 arg12 x6 (X1 x0 x1 (HT x2 x3) W) _ hinv _ h12 hcov _ (by decide) _ (scale_step 3 (by decide) arg7 harg7 arg12 x6 (X1 x0 x1 (HT x2 x3) W) _ hinv _ h12 hcov _ (by decide) _ (scale_step 2 (by decide) arg7 harg7 arg12 x6 (X1 x0 x1 (HT x2 x3) W) _ hinv _ h12 hcov _ (by decide) _ (scale_step 1 (by decide) arg7 harg7 arg12 x6 (X1 x0 x1 (HT x2 x3) W) _ hinv _ h12 hcov _ (by decide) _ (scale_step 0 (by decide) arg7 harg7 arg12 x6 (X1 x0 x1 (HT x2 x3) W) _ hinv _ h12 hcov _ (by decide) _ (fun r l hl => absurd hl (Nat.not_lt_zero _))))))))))))))))))))))))))))))))))))))))))))))))))))))))))) pieces_nil) (View.cover_of_tiledL _ S56x128.size (by sl_kernel_rfl))
  isplitl [HS0]
  · iexists _; isplitr; swap; · iexact HS0
    ipureintro; exact h11
  iexists _, _; isplitr; swap; · iexact HS1
  ipureintro; rfl

end Cert.NormIdeal.Norm

end
-- ==== Proof.Norm.Frame.lean ====
/- The frame of the dense1 call over the extended reals, and the run with the contents of its three results. -/
module

public import proofs.«01_k».proof.Proof.Norm.BodyA
public import proofs.«01_k».proof.Proof.Norm.BodyB
public import Idealize.ShloMosaic.Lib.Claim

@[expose] public section

set_option maxRecDepth 16384

noncomputable section

namespace Cert.NormIdeal.Norm

open Cert.NormIdeal Cert.NormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The weights the first grid point widens, which every later point reads. -/
def weights (c : Dev nD) : Vec Ideal S2048x7168 .bf16 :=
  WB (iblk m c 4 ⟨0, lt_of_lt_of_eq (by decide) N_0.symm⟩) (iblk m c 5 ⟨0, lt_of_lt_of_eq (by decide) N_0.symm⟩)

/-- The invariant before position `n`: before the first point every scratch at anything; afterwards the first scratch at the
    widened weights, the second at anything, and the generator register at some state. -/
def PhiS (c : Dev nD) : (n : ℕ) → n ≤ cfg0.N → sProp 𝕄
  | 0, _ => Pipeline.ΦA spec0 c
  | n + 1, hn => iprop(iprop(owns (c : Thread nD τ) scM0_0 fullShare (weights m c) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the weights are widened. -/
theorem PhiS_succ (c : Dev nD) (n : ℕ) (hn : n < cfg0.N) :
    PhiS m c (n + 1) hn = iprop(iprop(owns (c : Thread nD τ) scM0_0 fullShare (weights m c) ∗ (∃ d, owns (c : Thread nD τ) scM0_1 fullShare d)) ∗ (∃ r, prngReg c r)) := rfl

/-- Before a point that is not the first: the weights are widened. -/
theorem PhiS_pos (c : Dev nD) (n : ℕ) (h : n ≤ cfg0.N) (hz : n ≠ 0) :
    PhiS m c n h = iprop(iprop(owns (c : Thread nD τ) scM0_0 fullShare (weights m c) ∗ (∃ d, owns (c : Thread nD τ) scM0_1 fullShare d)) ∗ (∃ r, prngReg c r)) := by
  cases n with
  | zero => exact absurd rfl hz
  | succ n => rfl

/-! ## The pipeline's proof data -/

/-- The proof data of the pipeline on core `c`: the arrays as the region finds them; after the body at point `t` each input's
    buffer at its block and the outputs' at the sum, its codes and its scales; nothing owed; full shares. -/
def dats (_ : Fin 1) (c : Dev nD) : Dat τ (Elt Ideal) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => XO (iblk m c 0 t) (iblk m c 1 t) (HT (iblk m c 2 t) (iblk m c 3 t)) (weights m c)
    | ⟨8, _⟩ => CODES (NV (X1 (iblk m c 0 t) (iblk m c 1 t) (HT (iblk m c 2 t) (iblk m c 3 t)) (weights m c)) (iblk m c 6 t))
    | ⟨9, _⟩ => SC (NV (X1 (iblk m c 0 t) (iblk m c 1 t) (HT (iblk m c 2 t) (iblk m c 3 t)) (weights m c)) (iblk m c 6 t))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = Gen.V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = XO (iblk m c 0 t) (iblk m c 1 t) (HT (iblk m c 2 t) (iblk m c 3 t)) (weights m c) := by dsimp only [dats]
theorem after0_8 (c : Dev nD) (t : Fin cfg0.N) : (dats m 0 c).after 8 t = CODES (NV (X1 (iblk m c 0 t) (iblk m c 1 t) (HT (iblk m c 2 t) (iblk m c 3 t)) (weights m c)) (iblk m c 6 t)) := by dsimp only [dats]
theorem after0_9 (c : Dev nD) (t : Fin cfg0.N) : (dats m 0 c).after 9 t = SC (NV (X1 (iblk m c 0 t) (iblk m c 1 t) (HT (iblk m c 2 t) (iblk m c 3 t)) (weights m c)) (iblk m c 6 t)) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 3200000 in
/-- The body at any point: the first point runs the widening (`run_A`), every later one finds the weights widened (`run_B`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      have hw : WB (iblk m c 4 t) (iblk m c 5 t) = weights m c := by rw [show t = ⟨0, lt_of_lt_of_eq (by decide) N_0.symm⟩ from Fin.ext hz]; rfl
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      rw [← hw]
      iapply (run_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · exfalso; omega
  · by_cases hz : t.val = 0
    · exfalso; omega
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (weights m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (Gen.V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := Gen.V m) (hmain := hmain m Variants.none) (hA := A_eq m) (hin := hin m) (hout := hout m)

/-- Every weakly fair execution terminates, with every array of the pipeline at what the proof data says and every other
    unscoped buffer as the region found it. -/
theorem run_main : θ_run defs (onTc (τ := τ) (main (F := Ideal))) (s₀ m ρ) (Pipeline.FramePost cfgs (dats m) 0 (Gen.V m)) :=
  (θ_run defs _ _).mono (fun _ h => h.1) (run_main_quiescent m ρ)

/-- After the frame run, output window 7's array. -/
theorem post7 (r : PUnit × MemSt nD τ sig (Elt Ideal)) (h : Pipeline.FramePost cfgs (dats m) 0 (Gen.V m) r) (c : Dev nD) :
    r.2.mem ((c : Thread nD τ).loc main_v4_0) = (dats m 0 c).arrAt 7 cfg0.N :=
  (h c).1 7

/-- After the frame run, output window 8's array. -/
theorem post8 (r : PUnit × MemSt nD τ sig (Elt Ideal)) (h : Pipeline.FramePost cfgs (dats m) 0 (Gen.V m) r) (c : Dev nD) :
    r.2.mem ((c : Thread nD τ).loc main_v4_1) = (dats m 0 c).arrAt 8 cfg0.N :=
  (h c).1 8

/-- After the frame run, output window 9's array. -/
theorem post9 (r : PUnit × MemSt nD τ sig (Elt Ideal)) (h : Pipeline.FramePost cfgs (dats m) 0 (Gen.V m) r) (c : Dev nD) :
    r.2.mem ((c : Thread nD τ).loc main_v4_2) = (dats m 0 c).arrAt 9 cfg0.N :=
  (h c).1 9

/-- After the frame run, argument `main_arg0` is as launched. -/
theorem kept_main_arg0 (r : PUnit × MemSt nD τ sig (Elt Ideal)) (h : Pipeline.FramePost cfgs (dats m) 0 (Gen.V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched. -/
theorem kept_main_arg1 (r : PUnit × MemSt nD τ sig (Elt Ideal)) (h : Pipeline.FramePost cfgs (dats m) 0 (Gen.V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched. -/
theorem kept_main_arg2 (r : PUnit × MemSt nD τ sig (Elt Ideal)) (h : Pipeline.FramePost cfgs (dats m) 0 (Gen.V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched. -/
theorem kept_main_arg3 (r : PUnit × MemSt nD τ sig (Elt Ideal)) (h : Pipeline.FramePost cfgs (dats m) 0 (Gen.V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched. -/
theorem kept_main_arg4 (r : PUnit × MemSt nD τ sig (Elt Ideal)) (h : Pipeline.FramePost cfgs (dats m) 0 (Gen.V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched. -/
theorem kept_main_arg5 (r : PUnit × MemSt nD τ sig (Elt Ideal)) (h : Pipeline.FramePost cfgs (dats m) 0 (Gen.V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched. -/
theorem kept_main_arg6 (r : PUnit × MemSt nD τ sig (Elt Ideal)) (h : Pipeline.FramePost cfgs (dats m) 0 (Gen.V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- The frame run with each output array after the run named, the arguments unchanged. -/
theorem run_blocks : θ_run defs (onTc (τ := τ) (main (F := Ideal))) ⟨m, fun _ => 0, ρ⟩ fun r => ∀ c : Dev nD,
      r.2.mem ((c : Thread nD τ).loc main_v4_0) = (dats m 0 c).arrAt 7 cfg0.N
      ∧ r.2.mem ((c : Thread nD τ).loc main_v4_1) = (dats m 0 c).arrAt 8 cfg0.N
      ∧ r.2.mem ((c : Thread nD τ).loc main_v4_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨post7 m r h c, post8 m r h c, post9 m r h c, kept_main_arg0 m r h c, kept_main_arg1 m r h c, kept_main_arg2 m r h c, kept_main_arg3 m r h c, kept_main_arg4 m r h c, kept_main_arg5 m r h c, kept_main_arg6 m r h c⟩)
    (run_main m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame with the counters. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.NormIdeal.Norm

end
-- ==== Proof.Norm.Row.lean ====
/- One row: its normalisation as the kernel and as the reference write it, the step of a run, and the exponent by counting and by logarithm. -/
module

public import Idealize.ShloMosaic.PureOps.Ideal
public import Idealize.ShloMosaic.PureOps.Reduce

@[expose] public section

noncomputable section

namespace Cert.Row

open Idealize.ShloMosaic

/-! ## Constants -/

theorem bits_one : Ideal.ofBits .f32 0x3F800000#32 = ((1 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_width : Ideal.ofBits .f32 0x45E00000#32 = ((7168 : ℝ) : EReal) := by
  simp [Ideal.ofBits, Ideal.ieee, -EReal.coe_mul]; norm_num

theorem bits_eps : Ideal.ofBits .f32 0x358637BD#32 = ((8796093 / 2 ^ 43 : ℝ) : EReal) := by
  simp [Ideal.ofBits, Ideal.ieee, -EReal.coe_mul]; norm_num

theorem bits_least : Ideal.ofBits .f32 0xC2FC0000#32 = ((-126 : ℝ) : EReal) := by
  simp [Ideal.ofBits, Ideal.ieee, -EReal.coe_mul, -EReal.coe_neg]; norm_num

theorem bits_step : Ideal.ofBits .f32 0x3B124925#32 = ((9586981 / 2 ^ 32 : ℝ) : EReal) := by
  simp [Ideal.ofBits, Ideal.ieee, -EReal.coe_mul]; norm_num

theorem bits_bot : Ideal.ofBits .f32 0xFF800000#32 = (⊥ : EReal) := by
  simp [Ideal.ofBits, Ideal.ieee]

theorem bits_max : Ideal.ofBits .f32 0x7F7FFFFF#32 = ((16777215 * 2 ^ 104 : ℝ) : EReal) := by
  simp [Ideal.ofBits, Ideal.ieee, -EReal.coe_mul, -EReal.coe_pow]

/-! ## A row normalised, both ways -/

/-- A row's sum of squares. -/
def squares (X : Fin 7168 → EReal) : EReal := ∑ k : Fin 7168, X k * X k

/-- A row's root mean square, steadied by the small constant. -/
def rms (X : Fin 7168 → EReal) : EReal :=
  Ideal.sqrt (Ideal.div (squares X) (Ideal.ofBits .f32 0x45E00000#32) + Ideal.ofBits .f32 0x358637BD#32)

/-- Entry `n` of a row over its root mean square, times the gain: as the reference divides. -/
def normed (X g : Fin 7168 → EReal) (n : Fin 7168) : EReal := Ideal.div (X n) (rms X) * g n

/-- The same as the kernel multiplies. -/
def normedK (X g : Fin 7168 → EReal) (n : Fin 7168) : EReal :=
  (X n * Ideal.div (Ideal.ofBits .f32 0x3F800000#32)
    (Ideal.sqrt (squares X * ((1 / 7168 : ℝ) : EReal) + Ideal.ofBits .f32 0x358637BD#32))) * g n

theorem sq_nonneg (x : EReal) : 0 ≤ x * x := by
  induction x using EReal.rec with
  | bot => simp
  | top => simp
  | coe r => rw [← EReal.coe_mul]; exact EReal.coe_nonneg.mpr (mul_self_nonneg r)

theorem squares_nonneg (X : Fin 7168 → EReal) : 0 ≤ squares X := Finset.sum_nonneg fun _ _ => sq_nonneg _

theorem le_squares (X : Fin 7168 → EReal) (n : Fin 7168) : X n * X n ≤ squares X :=
  Finset.single_le_sum (f := fun k => X k * X k) (fun _ _ => sq_nonneg _) (Finset.mem_univ n)

theorem mean_eq (s : EReal) : Ideal.div s (Ideal.ofBits .f32 0x45E00000#32) = s * ((1 / 7168 : ℝ) : EReal) := by
  rw [bits_width]
  unfold Ideal.div
  rw [if_neg (by exact_mod_cast (by norm_num : (7168 : ℝ) ≠ 0)), ← EReal.coe_inv]
  norm_num

theorem rms_cases (X : Fin 7168 → EReal) : rms X = ⊤ ∨
    ∃ σ : ℝ, 0 ≤ σ ∧ squares X = σ ∧ rms X = ((Real.sqrt (σ * (1 / 7168) + 8796093 / 2 ^ 43) : ℝ) : EReal) := by
  have h0 := squares_nonneg X
  unfold rms
  rw [mean_eq, bits_eps]
  generalize squares X = s at h0
  induction s using EReal.rec with
  | bot => simp at h0
  | top =>
    left
    rw [EReal.top_mul_coe_of_pos (by norm_num), EReal.top_add_coe]
    rfl
  | coe σ =>
    have hσ : 0 ≤ σ := EReal.coe_nonneg.mp h0
    refine Or.inr ⟨σ, hσ, rfl, ?_⟩
    rw [← EReal.coe_mul, ← EReal.coe_add]
    show (if _ then _ else _) = _
    rw [if_neg]
    have : 0 ≤ σ * (1 / 7168) := by positivity
    push Not
    positivity

theorem rms_ne (X : Fin 7168 → EReal) : rms X ≠ 0 := by
  rcases rms_cases X with h | ⟨σ, hσ, -, h⟩
  · rw [h]; simp
  · rw [h]
    have : 0 < Real.sqrt (σ * (1 / 7168) + 8796093 / 2 ^ 43) := Real.sqrt_pos.mpr (by positivity)
    exact_mod_cast this.ne'

/-- Multiplying by one over the root mean square divides by it: it is not zero. -/
theorem normedK_eq (X g : Fin 7168 → EReal) (n : Fin 7168) : normedK X g n = normed X g n := by
  unfold normedK normed
  have h : Ideal.sqrt (squares X * ((1 / 7168 : ℝ) : EReal) + Ideal.ofBits .f32 0x358637BD#32) = rms X := by
    unfold rms; rw [mean_eq]
  rw [h, bits_one]
  unfold Ideal.div
  rw [if_neg (rms_ne X), if_neg (rms_ne X), EReal.coe_one, one_mul]

/-- An entry over its row's root mean square is at most 85: the width is below 85 squared. -/
theorem ratio (X : Fin 7168 → EReal) (n : Fin 7168) : ∃ u : ℝ, |u| ≤ 85 ∧ Ideal.div (X n) (rms X) = u := by
  unfold Ideal.div
  rw [if_neg (rms_ne X)]
  rcases rms_cases X with h | ⟨σ, hσ, hs, h⟩
  · exact ⟨0, by norm_num, by rw [h]; simp⟩
  · have hn := le_squares X n
    rw [hs] at hn
    rw [h]
    generalize X n = x at hn
    induction x using EReal.rec with
    | bot => simp at hn
    | top => simp at hn
    | coe r =>
      rw [← EReal.coe_mul] at hn
      have hr : r * r ≤ σ := EReal.coe_le_coe_iff.mp hn
      have hp : 0 < Real.sqrt (σ * (1 / 7168) + 8796093 / 2 ^ 43) := Real.sqrt_pos.mpr (by positivity)
      refine ⟨r * (Real.sqrt (σ * (1 / 7168) + 8796093 / 2 ^ 43))⁻¹, ?_, by rw [EReal.coe_mul, EReal.coe_inv]⟩
      rw [← div_eq_mul_inv, abs_div, abs_of_pos hp, div_le_iff₀ hp]
      refine abs_le_of_sq_le_sq ?_ (by positivity)
      rw [mul_pow, Real.sq_sqrt (by positivity)]
      nlinarith

theorem normed_bound (X g : Fin 7168 → EReal) (hg : ∀ n, max (g n) (-g n) ≤ Ideal.ofBits .f32 0x7F7FFFFF#32) (n : Fin 7168) :
    ∃ v : ℝ, |v| ≤ 85 * (16777215 * 2 ^ 104) ∧ normed X g n = v := by
  obtain ⟨u, hu, hd⟩ := ratio X n
  have h := hg n
  rw [bits_max] at h
  unfold normed
  rw [hd]
  generalize g n = y at h
  induction y using EReal.rec with
  | bot => exact (EReal.coe_ne_top _ (top_le_iff.mp (le_trans (by simp) h))).elim
  | top => exact (EReal.coe_ne_top _ (top_le_iff.mp ((le_max_left _ _).trans h))).elim
  | coe γ =>
    have h1 : γ ≤ 16777215 * 2 ^ 104 := EReal.coe_le_coe_iff.mp ((le_max_left _ _).trans h)
    have h2 : -γ ≤ 16777215 * 2 ^ 104 := by
      have := (le_max_right _ _).trans h
      rw [← EReal.coe_neg] at this
      exact EReal.coe_le_coe_iff.mp this
    refine ⟨u * γ, ?_, by rw [EReal.coe_mul]⟩
    rw [abs_mul]
    exact mul_le_mul hu (abs_le.mpr ⟨by linarith, h1⟩) (abs_nonneg _) (by norm_num)

/-! ## A run's step -/

/-- A run's largest magnitude over 448. -/
def step (v : Fin 128 → EReal) : EReal :=
  Finset.fold max (Ideal.ofBits .f32 0xFF800000#32) (fun x => FloatOps.absf (F := Ideal) (φ := .f32) (v x)) Finset.univ * Ideal.ofBits .f32 0x3B124925#32

theorem step_real (v : Fin 128 → EReal) (hv : ∀ l, ∃ r : ℝ, |r| ≤ 85 * (16777215 * 2 ^ 104) ∧ v l = r) :
    ∃ a : ℝ, 0 ≤ a ∧ a < 2 ^ 126 ∧ step v = a := by
  unfold step
  rw [bits_bot, bits_step]
  have hle : Finset.fold max (⊥ : EReal) (fun x => FloatOps.absf (F := Ideal) (φ := .f32) (v x)) Finset.univ ≤ ((85 * (16777215 * 2 ^ 104) : ℝ) : EReal) := by
    rw [Finset.fold_max_le]
    refine ⟨bot_le, fun l _ => ?_⟩
    obtain ⟨r, hr, he⟩ := hv l
    show max (v l) (-v l) ≤ _
    rw [he, ← EReal.coe_neg]
    have := abs_le.mp hr
    exact max_le (EReal.coe_le_coe_iff.mpr this.2) (EReal.coe_le_coe_iff.mpr (by linarith))
  have hge : 0 ≤ Finset.fold max (⊥ : EReal) (fun x => FloatOps.absf (F := Ideal) (φ := .f32) (v x)) Finset.univ := by
    rw [Finset.le_fold_max]
    refine Or.inr ⟨0, Finset.mem_univ _, ?_⟩
    obtain ⟨r, hr, he⟩ := hv 0
    show 0 ≤ max (v 0) (-v 0)
    rw [he, ← EReal.coe_neg]
    rcases le_total 0 r with h | h
    · exact le_max_of_le_left (EReal.coe_nonneg.mpr h)
    · exact le_max_of_le_right (EReal.coe_nonneg.mpr (by linarith))
  generalize Finset.fold max (⊥ : EReal) (fun x => FloatOps.absf (F := Ideal) (φ := .f32) (v x)) Finset.univ = f at hle hge
  induction f using EReal.rec with
  | bot => simp at hge
  | top => exact (EReal.coe_ne_top _ (top_le_iff.mp hle)).elim
  | coe ρ =>
    have h0 : 0 ≤ ρ := EReal.coe_nonneg.mp hge
    have h1 : ρ ≤ 85 * (16777215 * 2 ^ 104) := EReal.coe_le_coe_iff.mp hle
    refine ⟨ρ * (9586981 / 2 ^ 32), by positivity, ?_, by rw [EReal.coe_mul]⟩
    calc ρ * (9586981 / 2 ^ 32) ≤ 85 * (16777215 * 2 ^ 104) * (9586981 / 2 ^ 32) := mul_le_mul_of_nonneg_right h1 (by positivity)
      _ < 2 ^ 126 := by norm_num

/-! ## The power a word denotes -/

theorem pw_field : ∀ i : Fin 256, ((IntOp.shli .vector (BitVec.ofNat 32 i.val) 23#32).extractLsb' 23 8).toNat = i.val
    ∧ ((IntOp.shli .vector (BitVec.ofNat 32 i.val) 23#32).extractLsb' (8 + 23) 1 == 1#1) = false
    ∧ ((IntOp.shli .vector (BitVec.ofNat 32 i.val) 23#32).extractLsb' 0 23).toNat = 0 := by decide +kernel

theorem pw_zero : Ideal.ofBits .f32 (IntOp.shli .vector (BitVec.ofNat 32 0) 23#32) = 0 := by
  obtain ⟨h1, h2, h3⟩ := pw_field 0
  show Ideal.ieee 8 23 (IntOp.shli .vector (BitVec.ofNat 32 (0 : Fin 256).val) 23#32) = _
  unfold Ideal.ieee
  simp only [h1, h2, h3]
  simp

theorem pw_top : Ideal.ofBits .f32 (IntOp.shli .vector (BitVec.ofNat 32 255) 23#32) = ⊤ := by
  obtain ⟨h1, h2, h3⟩ := pw_field 255
  show Ideal.ieee 8 23 (IntOp.shli .vector (BitVec.ofNat 32 (255 : Fin 256).val) 23#32) = _
  unfold Ideal.ieee
  simp only [h1, h2, h3]
  simp

/-- An exponent field of `i`, neither end, denotes 2 to the `i - 127`. -/
theorem pw (i : ℕ) (h0 : 0 < i) (h : i < 255) : Ideal.ofBits .f32 (IntOp.shli .vector (BitVec.ofNat 32 i) 23#32)
    = (((2 : ℝ) ^ ((i : ℤ) - 127) : ℝ) : EReal) := by
  obtain ⟨h1, h2, h3⟩ := pw_field ⟨i, by omega⟩
  show Ideal.ieee 8 23 _ = _
  unfold Ideal.ieee
  simp only at h1 h2 h3
  simp only [h1, h2, h3]
  rw [if_neg (by omega), if_neg (by omega)]
  refine EReal.coe_eq_coe_iff.mpr ?_
  have e : ((i : ℤ) - 127) = ((i : ℤ) - (2 ^ (8 - 1) - 1) - (23 : ℕ)) + 23 := by norm_num
  rw [e, zpow_add₀ (by norm_num : (2 : ℝ) ≠ 0)]
  norm_num
  ring

/-- The same, read off the words: a power at or below a real. -/
theorem pw_le (i : Fin 256) (a : ℝ) (c : ℕ) (h0 : 0 ≤ a) (hc : 0 < c) (hc' : c < 255) (hlo : 1 < c → (2 : ℝ) ^ ((c : ℤ) - 1 - 127) ≤ a) (hhi : a < (2 : ℝ) ^ ((c : ℤ) - 127)) :
    Ideal.ofBits .f32 (IntOp.shli .vector (BitVec.ofNat 32 i.val) 23#32) ≤ (a : EReal) ↔ i.val < c := by
  have hi := i.isLt
  rcases Nat.eq_zero_or_pos i.val with h | h
  · rw [h, pw_zero]
    exact ⟨fun _ => hc, fun _ => EReal.coe_nonneg.mpr h0⟩
  · rcases Nat.lt_or_ge i.val 255 with h' | h'
    · rw [pw _ h h', EReal.coe_le_coe_iff]
      constructor
      · intro hle
        have := (zpow_lt_zpow_iff_right₀ (by norm_num : (1 : ℝ) < 2)).mp (hle.trans_lt hhi)
        omega
      · intro hlt
        refine le_trans ?_ (hlo (by omega))
        exact (zpow_le_zpow_iff_right₀ (by norm_num : (1 : ℝ) < 2)).mpr (by omega)
    · have e : i.val = 255 := by omega
      rw [e, pw_top]
      simp
      omega

theorem fold_count (p : Fin 256 → Bool) (s : Finset (Fin 256)) :
    Finset.fold IntOp.addi 0#32 (fun x => BitVec.setWidth 32 (BitVec.ofBool (p x))) s = BitVec.ofNat 32 (s.filter (fun x => p x = true)).card := by
  induction s using Finset.induction_on with
  | empty => rfl
  | insert a s ha ih =>
    rw [Finset.fold_insert ha, ih, Finset.filter_insert]
    cases h : p a
    · simp [IntOp.addi]
    · rw [if_pos rfl, Finset.card_insert_of_notMem (by simp [ha])]
      apply BitVec.eq_of_toNat_eq
      simp [IntOp.addi, Nat.add_comm]

theorem card_lt : ∀ c : Fin 256, (Finset.univ.filter (fun i : Fin 256 => i.val < c.val)).card = c.val := by decide +kernel

theorem card_lt' (c : ℕ) (h : c < 256) : (Finset.univ.filter (fun i : Fin 256 => i.val < c)).card = c := card_lt ⟨c, h⟩

/-! ## The exponent, both ways -/

/-- The kernel's exponent of a step: how many of the 256 powers lie at or below it, re-biased; none for a zero run. -/
def exponentK (a : EReal) : BitVec 32 :=
  if a = 0 then 0#32 else IntOp.subi (IntOp.subi (Finset.fold IntOp.addi 0#32 (fun x : Fin 256 => BitVec.setWidth 32
    (BitVec.ofBool (decide (Ideal.ofBits .f32 (IntOp.shli .vector (BitVec.ofNat 32 x.val) 23#32) ≤ a)))) Finset.univ) 1#32) 126#32

/-- The float whose exponent field holds `e + 127`. -/
def powerK (e : BitVec 32) : EReal := Ideal.ofBits .f32 (IntOp.shli .vector (IntOp.addi e 127#32) 23#32)

/-- The reference's exponent of a step. -/
def exponent (a : EReal) : EReal :=
  if a = 0 then 0 else max (Ideal.liftRound Int.floor (Ideal.div (Ideal.log a) (Ideal.log (Ideal.ofBits .f32 0x40000000#32))) + 1)
    (Ideal.ofBits .f32 0xC2FC0000#32)

theorem words : ∀ c : Fin 255, IntOp.addi (IntOp.subi (IntOp.subi (BitVec.ofNat 32 c.val) 1#32) 126#32) 127#32 = BitVec.ofNat 32 c.val
    ∧ IntOp.addi (IntOp.subi 0#32 (IntOp.subi (IntOp.subi (BitVec.ofNat 32 c.val) 1#32) 126#32)) 127#32 = BitVec.ofNat 32 (254 - c.val) := by decide +kernel

theorem exp2_int (z : ℤ) : Ideal.exp2 ((z : ℝ) : EReal) = (((2 : ℝ) ^ z : ℝ) : EReal) := by
  show ((Real.rpow 2 (z : ℝ) : ℝ) : EReal) = _
  congr 1
  exact Real.rpow_intCast 2 z

/-- The two powers of a step whose exponent word is `c - 127`. -/
theorem powers (c : ℕ) (h0 : 0 < c) (h : c < 254) (w : BitVec 32) (hw : w = IntOp.subi (IntOp.subi (BitVec.ofNat 32 c) 1#32) 126#32) (x : EReal)
    (hx : x = ((((c : ℤ) - 127 : ℤ) : ℝ) : EReal)) :
    powerK w = Ideal.exp2 x ∧ powerK (IntOp.subi 0#32 w) = Ideal.exp2 (0 - x) := by
  obtain ⟨e1, e2⟩ := words ⟨c, by omega⟩
  simp only at e1 e2
  subst hw hx
  unfold powerK
  rw [e1, e2, pw _ h0 (by omega), pw _ (by omega) (by omega), exp2_int]
  refine ⟨rfl, ?_⟩
  have : (0 : EReal) - ((((c : ℤ) - 127 : ℤ) : ℝ) : EReal) = (((127 - (c : ℤ) : ℤ) : ℝ) : EReal) := by
    rw [← EReal.coe_zero, ← EReal.coe_sub]
    congr 1
    push_cast
    ring
  rw [this, exp2_int]
  congr 2
  omega

/-- For a step below 2 to the 126 the kernel's powers are the reference's. -/
theorem powers_eq (a : ℝ) (h0 : 0 ≤ a) (h : a < 2 ^ 126) :
    powerK (exponentK a) = Ideal.exp2 (exponent a) ∧ powerK (IntOp.subi 0#32 (exponentK a)) = Ideal.exp2 (0 - exponent a) := by
  rcases h0.eq_or_lt with rfl | hp
  · refine powers 127 (by decide) (by decide) _ ?_ _ ?_
    · unfold exponentK; rw [if_pos EReal.coe_zero]; rfl
    · unfold exponent; rw [if_pos EReal.coe_zero]; simp
  · have hl2 : 0 < Real.log 2 := Real.log_pos (by norm_num)
    have ha : (a : EReal) ≠ 0 := by exact_mod_cast hp.ne'
    set k : ℤ := ⌊Real.log a / Real.log 2⌋ with hk
    have hlo : (2 : ℝ) ^ k ≤ a := by
      rw [← Real.log_le_log_iff (by positivity) hp, Real.log_zpow]
      exact (le_div_iff₀ hl2).mp (Int.floor_le _)
    have hhi : a < (2 : ℝ) ^ (k + 1) := by
      rw [← Real.log_lt_log_iff hp (by positivity), Real.log_zpow]
      have := (div_lt_iff₀ hl2).mp (Int.lt_floor_add_one (Real.log a / Real.log 2))
      push_cast
      exact this
    have hk' : k < 126 := by
      have : (2 : ℝ) ^ k < 2 ^ (126 : ℤ) := hlo.trans_lt (by exact_mod_cast h)
      exact (zpow_lt_zpow_iff_right₀ (by norm_num : (1 : ℝ) < 2)).mp this
    have hx : exponent a = ((max (k + 1) (-126) : ℤ) : ℝ) := by
      unfold exponent
      rw [if_neg ha, bits_two, bits_least]
      have e1 : Ideal.log (a : EReal) = ((Real.log a : ℝ) : EReal) := if_neg (by simpa using hp)
      have e2 : Ideal.log ((2 : ℝ) : EReal) = ((Real.log 2 : ℝ) : EReal) := if_neg (by norm_num)
      rw [e1, e2]
      unfold Ideal.div
      rw [if_neg (by exact_mod_cast hl2.ne'), ← EReal.coe_inv, ← EReal.coe_mul, ← div_eq_mul_inv, Ideal.liftRound_coe, ← hk, ← EReal.coe_one, ← EReal.coe_add]
      push_cast
      rfl
    obtain ⟨c, hc⟩ : ∃ c : ℕ, (c : ℤ) = max (k + 1) (-126) + 127 := ⟨(max (k + 1) (-126) + 127).toNat, by omega⟩
    refine powers c (by omega) (by omega) _ ?_ _ (by rw [hx, hc]; congr 2; omega)
    unfold exponentK
    rw [if_neg ha, fold_count]
    have hcard : (Finset.univ.filter (fun i : Fin 256 => decide (Ideal.ofBits .f32 (IntOp.shli .vector (BitVec.ofNat 32 i.val) 23#32) ≤ (a : EReal)) = true)).card = c := by
     rw [← card_lt' c (by omega)]
     congr 1
     ext i
     simp only [Finset.mem_filter, Finset.mem_univ, true_and, decide_eq_true_eq]
     refine pw_le i a c h0 (by omega) (by omega) (fun h1 => ?_) (lt_of_lt_of_le hhi ?_)
     · have : (c : ℤ) - 1 - 127 = k := by omega
       rw [this]; exact hlo
     · exact (zpow_le_zpow_iff_right₀ (by norm_num : (1 : ℝ) < 2)).mpr (by omega)
    rw [hcard]

/-- A code: the entry over its run's power of two, held to the format's range. -/
def code (v p : EReal) : EReal := min (Ideal.ofBits .f32 0x43E00000#32) (max (Ideal.ofBits .f32 0xC3E00000#32) (v * p))

end Cert.Row

end
-- ==== Proof.Norm.Value.lean ====
/- The dense1 call's three results, index by index, as functions of the arguments. -/
module

public import proofs.«01_k».proof.Proof.Norm.Frame
public import proofs.«01_k».proof.Proof.Norm.Row
public import Idealize.ShloMosaic.Lib.Pointwise

@[expose] public section

set_option maxRecDepth 16384

noncomputable section

namespace Cert.NormIdeal.Norm

open Cert.NormIdeal Cert.NormIdeal.Gen
open Idealize.ShloMosaic Idealize.ShloMosaic.TcCoe Idealize.ShloMosaic.Tactic
open Idealize.ShloMosaic.Pipeline (Dat)

/-! ## The quantiser's terms at an index -/

theorem am_apply (v : FVec Ideal S128x128 .f32) (y : S128x1.Idx) : am v y = Row.step fun l => v (ix2 (y 0) l) := by
  unfold am Row.step
  pointwise

theorem ex_apply (a : FVec Ideal S128x1 .f32) (r : Fin 128) : ex a (ix2 r 0) = Row.exponentK (a (ix2 r 0)) := by
  unfold ex Row.exponentK
  pointwise

theorem p2_apply (e : IVec S128x1 32) (y : S128x1.Idx) : p2 e y = Row.powerK (e y) := by
  unfold p2 Row.powerK
  pointwise

theorem ct_apply (v : FVec Ideal S128x128 .f32) (e : IVec S128x1 32) (r l : Fin 128) :
    ct v e (ix2 r l) = Row.code (v (ix2 r l)) (Row.powerK (IntOp.subi 0#32 (e (ix2 r 0)))) := by
  unfold ct Row.code
  pointwise
  rw [p2_apply]
  rfl

/-- The `l`-th column of run `j`. -/
def col (j : Fin 56) (l : Fin 128) : Fin 7168 := ⟨128 * j.val + l.val, by omega⟩

/-- The run a column lies in. -/
def run (n : Fin 7168) : Fin 56 := ⟨n.val / 128, by omega⟩

theorem SC_apply (Z : Vec Ideal S128x7168 .f32) (y : S56x128.Idx) :
    SC Z y = Row.powerK (Row.exponentK (Row.step fun l => Z (ix2 (y 1) (col (y 0) l)))) := by
  unfold SC
  rw [p2_apply, ex_apply (r := y 1), am_apply]
  rfl

theorem CODES_apply (Z : Vec Ideal S128x7168 .f32) (r : Fin 128) (n : Fin 7168) :
    CODES Z (ix2 r n) = Row.code (Z (ix2 r n)) (Row.powerK (IntOp.subi 0#32 (Row.exponentK (Row.step fun l => Z (ix2 r (col (run n) l)))))) := by
  show ct (runOf Z (run n)) (ex (am (runOf Z (run n)))) (ix2 r ⟨n.val % 128, Nat.mod_lt _ (by decide)⟩) = _
  rw [ct_apply, ex_apply, am_apply]
  have e : runOf Z (run n) (ix2 r ⟨n.val % 128, Nat.mod_lt _ (by decide)⟩) = Z (ix2 r n) := by
    unfold runOf
    refine congrArg Z (funext fun a => Fin.ext ?_)
    match a with
    | 0 => rfl
    | 1 => exact Nat.div_add_mod n.val 128
  rw [e]
  rfl

theorem NV_apply (X : Vec Ideal S128x7168 .f32) (g : Vec Ideal S1x7168 .f32) (r : Fin 128) (n : Fin 7168) :
    NV X g (ix2 r n) = Row.normedK (fun k => X (ix2 r k)) (fun k => g (ix2 0 k)) n := rfl

/-! ## The results as functions of the arguments -/

section
variable (a0 : Vec Ideal S4096x7168 .bf16) (a1 : Vec Ideal S4096x7168 .f32) (a2 : Vec Ideal S4096x2048 .fp8e4m3) (a3 : Vec Ideal S4096x16 .f32)
  (a4 : Vec Ideal S2048x7168 .fp8e4m3) (a5 : Vec Ideal S16x56 .f32) (a6 : Vec Ideal S7168 .f32)

/-- Feature `n` of token `t`'s residual stream: what came in, the shared expert's down projection of codes times scales, the routed experts. -/
def stream (t : Fin 4096) (n : Fin 7168) : EReal :=
  ((a0 (ix2 t n) : EReal) + ∑ k : Fin 2048, ((a2 (ix2 t k) : EReal) * a3 (ix2 t ⟨k.val / 128, by omega⟩)) *
    ((a4 (ix2 k n) : EReal) * a5 (ix2 ⟨k.val / 128, by omega⟩ (run n)))) + a1 (ix2 t n)

/-- Feature `n` of token `t` normalised. -/
def entry (t : Fin 4096) (n : Fin 7168) : EReal := Row.normedK (stream a0 a1 a2 a3 a4 a5 t) (fun k => a6 (ix1 k)) n

/-- The first result. -/
def OUT1 : Vec Ideal S4096x7168 .bf16 := fun i => stream a0 a1 a2 a3 a4 a5 (i 0) (i 1)

/-- The exponent word of token `t`'s run `j`. -/
def word (t : Fin 4096) (j : Fin 56) : BitVec 32 := Row.exponentK (Row.step fun l => entry a0 a1 a2 a3 a4 a5 a6 t (col j l))

/-- The codes. -/
def OUT2 : Vec Ideal S4096x7168 .fp8e4m3 := fun i =>
  Row.code (entry a0 a1 a2 a3 a4 a5 a6 (i 0) (i 1)) (Row.powerK (IntOp.subi 0#32 (word a0 a1 a2 a3 a4 a5 a6 (i 0) (run (i 1)))))

/-- The scales. -/
def OUT3 : Vec Ideal S56x4096 .f32 := fun i => Row.powerK (word a0 a1 a2 a3 a4 a5 a6 (i 1) (i 0))

end

variable (m : (ℓ : Loc nD τ sig) → Buf (Elt Ideal) ℓ)

theorem V_hs (c : Dev nD) (y : S16x4096.Idx) :
    (V m c main_v0 : Vec Ideal S16x4096 .f32) y = (m ((c : Thread nD τ).loc main_arg3) : Vec Ideal S4096x16 .f32) (ix2 (y 1) (y 0)) := by
  entry_read
  pointwise

theorem V_ws (c : Dev nD) (y : S16x7168.Idx) :
    (V m c main_v2 : Vec Ideal S16x7168 .f32) y = (m ((c : Thread nD τ).loc main_arg5) : Vec Ideal S16x56 .f32) (ix2 (y 0) (run (y 1))) := by
  entry_read
  pointwise [run]

theorem V_gain (c : Dev nD) (y : S1x7168.Idx) :
    (V m c main_v3 : Vec Ideal S1x7168 .f32) y = (m ((c : Thread nD τ).loc main_arg6) : Vec Ideal S7168 .f32) (ix1 (y 1)) := by
  entry_read
  pointwise

/-- Every window's block at a point. -/
theorem idx : ∀ t : Fin cfg0.N, win0_0.index t = ![t.val, 0] ∧ win0_1.index t = ![t.val, 0] ∧ win0_2.index t = ![t.val, 0] ∧ win0_3.index t = ![0, t.val]
    ∧ win0_4.index t = ![0, 0] ∧ win0_5.index t = ![0, 0] ∧ win0_6.index t = ![0, 0] ∧ win0_7.index t = ![t.val, 0] ∧ win0_8.index t = ![t.val, 0] ∧ win0_9.index t = ![0, t.val] :=
  (by decide +kernel : ∀ t : Fin grid0.N, _)

/-- The token of a grid point's row. -/
def tok (t : Fin cfg0.N) (r : Fin 128) : Fin 4096 := ⟨128 * t.val + r.val, by have := lt_of_lt_of_eq t.isLt N_0; omega⟩

theorem row_eq (c : Dev nD) (t : Fin cfg0.N) (r : Fin 128) (n : Fin 7168) :
    X1 (iblk m c 0 t) (iblk m c 1 t) (HT (iblk m c 2 t) (iblk m c 3 t)) (weights m c) (ix2 r n) =
      stream (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (tok t r) n := by
  unfold X1 stream weights WB HT
  generalize (⟨0, lt_of_lt_of_eq (by decide) N_0.symm⟩ : Fin cfg0.N) = t0
  have e := idx t
  have e0 := idx t0
  congr 1
  · congr 1
    · blk_simp [iblk]
      rw [V_main_arg0]
      blk_point [e, e0, tok]
    · refine Finset.sum_congr rfl fun k _ => ?_
      blk_simp [iblk]
      rw [V_main_arg2, V_main_arg4, V_hs, V_ws]
      blk_point [e, e0, tok, run]
  · blk_simp [iblk]
    rw [V_main_arg1]
    blk_point [e, e0, tok]

theorem gain_eq (c : Dev nD) (t : Fin cfg0.N) (n : Fin 7168) :
    (iblk m c 6 t : Vec Ideal S1x7168 .f32) (ix2 0 n) = (m ((c : Thread nD τ).loc main_arg6) : Vec Ideal S7168 .f32) (ix1 n) := by
  have e := idx t
  blk_simp [iblk]
  rw [V_gain]
  blk_point [e]

theorem entry_eq (c : Dev nD) (t : Fin cfg0.N) (r : Fin 128) (n : Fin 7168) :
    NV (X1 (iblk m c 0 t) (iblk m c 1 t) (HT (iblk m c 2 t) (iblk m c 3 t)) (weights m c)) (iblk m c 6 t) (ix2 r n) =
      entry (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (tok t r) n := by
  rw [NV_apply]
  unfold entry
  rw [funext (row_eq m c t r), funext (gain_eq m c t)]

theorem codes_eq (c : Dev nD) (t : Fin cfg0.N) (r : Fin 128) (n : Fin 7168) :
    CODES (NV (X1 (iblk m c 0 t) (iblk m c 1 t) (HT (iblk m c 2 t) (iblk m c 3 t)) (weights m c)) (iblk m c 6 t)) (ix2 r n) =
      OUT2 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (ix2 (tok t r) n) := by
  rw [CODES_apply, entry_eq]
  refine congrArg (fun v => Row.code _ (Row.powerK (IntOp.subi 0#32 (Row.exponentK (Row.step v))))) (funext fun l => ?_)
  exact entry_eq m c t r _

theorem scales_eq (c : Dev nD) (t : Fin cfg0.N) (j : Fin 56) (r : Fin 128) :
    SC (NV (X1 (iblk m c 0 t) (iblk m c 1 t) (HT (iblk m c 2 t) (iblk m c 3 t)) (weights m c)) (iblk m c 6 t)) (ix2 j r) =
      OUT3 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (ix2 j (tok t r)) := by
  rw [SC_apply]
  refine congrArg (fun v => Row.powerK (Row.exponentK (Row.step v))) (funext fun l => ?_)
  exact entry_eq m c t r _

/-! ## The arrays the grid writes -/

theorem array1_eq (c : Dev nD) : (dats m 0 c).arrAt 7 cfg0.N =
    OUT1 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  have e := idx t
  have hy : (win0_7.blk t).view.emb y = (ix2 (tok t (y 0)) (y 1) : S4096x7168.Idx) := by blk_point [e, tok]
  have hz : y = (ix2 (y 0) (y 1) : S128x7168.Idx) := eq_ix2 y
  rw [hy, hz]
  exact row_eq m c t (y 0) (y 1)

theorem array2_eq (c : Dev nD) : (dats m 0 c).arrAt 8 cfg0.N =
    OUT2 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  have e := idx t
  have hy : (win0_8.blk t).view.emb y = (ix2 (tok t (y 0)) (y 1) : S4096x7168.Idx) := by blk_point [e, tok]
  have hz : y = (ix2 (y 0) (y 1) : S128x7168.Idx) := eq_ix2 y
  rw [hy]
  exact (congrArg (CODES _) hz).trans (codes_eq m c t (y 0) (y 1))

theorem array3_eq (c : Dev nD) : (dats m 0 c).arrAt 9 cfg0.N =
    OUT3 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  have e := idx t
  have hy : (win0_9.blk t).view.emb y = (ix2 (y 0) (tok t (y 1)) : S56x4096.Idx) := by blk_point [e, tok]
  have hz : y = (ix2 (y 0) (y 1) : S56x128.Idx) := eq_ix2 y
  rw [hy]
  exact (congrArg (SC _) hz).trans (scales_eq m c t (y 0) (y 1))

end Cert.NormIdeal.Norm

end
-- ==== Proof.Norm.RefValue.lean ====
/- The reference's three results, index by index, as functions of the arguments. -/
module

public import Idealize.ShloMosaic.PureOps.Ideal
public import Idealize.ShloMosaic.Lib.Pipeline.ValueKit
public import Idealize.ShloMosaic.Lib.Claim
public import proofs.«01_k».proof.Proof.Gen.NormRefIdeal.Frame
public import proofs.«01_k».proof.Proof.Norm.Row
public import Idealize.ShloMosaic.Lib.Pointwise

@[expose] public section

set_option maxRecDepth 16384

noncomputable section

namespace Cert.NormRefIdeal.Norm

open Cert.NormRefIdeal Cert.NormRefIdeal.Gen
open Idealize.ShloMosaic Idealize.ShloMosaic.TcCoe Idealize.ShloMosaic.Tactic
open Idealize.SL.Sem
open Idealize.ShloMosaic.Pipeline (Dat)

/-- The `l`-th column of run `j`. -/
def col (j : Fin 56) (l : Fin 128) : Fin 7168 := ⟨128 * j.val + l.val, by omega⟩

/-- The run a column lies in. -/
def run (n : Fin 7168) : Fin 56 := ⟨n.val / 128, by omega⟩

/-! ## The body's values at an index -/

section
variable (v0 : Vec Ideal S4096x2048 .fp8e4m3) (v2 : Vec Ideal S4096x2048 .bf16) (v5 : Vec Ideal S2048x7168 .fp8e4m3) (v7 : Vec Ideal S2048x7168 .bf16)
  (v10 : Vec Ideal S4096x7168 .bf16) (v14 : Vec Ideal S4096x7168 .f32) (v26 : Vec Ideal S1x7168 .f32)

theorem pay4 (y : S4096x7168.Idx) : k0_pay4 v0 v2 v5 v7 v10 v14 y =
    ((v10 y : EReal) + ∑ k : Fin 2048, ((v0 (ix2 (y 0) k) : EReal) * v2 (ix2 (y 0) k)) * ((v5 (ix2 k (y 1)) : EReal) * v7 (ix2 k (y 1)))) + v14 y := by
  unfold k0_pay4
  pointwise

theorem pay6 (t : Fin 4096) (j : Fin 56) (l : Fin 128) : k0_pay6 v0 v2 v5 v7 v10 v14 v26 (ix3 t j l) =
    Row.normed (fun n => k0_pay4 v0 v2 v5 v7 v10 v14 (ix2 t n)) (fun n => v26 (ix2 0 n)) (col j l) := by
  unfold k0_pay6 Row.normed Row.rms Row.squares
  generalize k0_pay4 v0 v2 v5 v7 v10 v14 = X
  have e : col j l = ⟨j.val * 128 + l.val, by omega⟩ := Fin.ext (by show 128 * j.val + l.val = j.val * 128 + l.val; omega)
  rw [e]
  pointwise

theorem pay78 (t : Fin 4096) (j : Fin 56) : (k0_pay7 v0 v2 v5 v7 v10 v14 v26 (ix3 t j 0) : EReal) * k0_pay8 (F := Ideal) (ix3 t j 0) =
    Row.step fun l => k0_pay6 v0 v2 v5 v7 v10 v14 v26 (ix3 t j l) := by
  unfold k0_pay7 k0_pay8 Row.step
  generalize k0_pay6 v0 v2 v5 v7 v10 v14 v26 = X
  pointwise

theorem pay1 (a b : FVec Ideal S4096x56x1 .f32) (y : S4096x56x1.Idx) : k0_pay1 a b y = Row.exponent ((a y : EReal) * b y) := by
  unfold k0_pay1 Row.exponent
  pointwise
  simp
  rfl

theorem pay2 (v : FVec Ideal S4096x56x128 .f32) (a b : FVec Ideal S4096x56x1 .f32) (t : Fin 4096) (n : Fin 7168) : k0_pay2 v a b (ix2 t n) =
    Row.code (v (ix3 t (run n) ⟨n.val % 128, Nat.mod_lt _ (by decide)⟩)) (Ideal.exp2 (0 - Row.exponent ((a (ix3 t (run n) 0) : EReal) * b (ix3 t (run n) 0)))) := by
  unfold k0_pay2
  rw [← pay1]
  generalize k0_pay1 a b = X
  unfold Row.code
  pointwise
  rfl

theorem pay3 (a b : FVec Ideal S4096x56x1 .f32) (y : S56x4096.Idx) : k0_pay3 a b y =
    Ideal.exp2 (Row.exponent ((a (ix3 (y 1) (y 0) 0) : EReal) * b (ix3 (y 1) (y 0) 0))) := by
  unfold k0_pay3
  rw [← pay1]
  generalize k0_pay1 a b = X
  pointwise
  rfl

end

/-! ## The results as functions of the arguments -/

section
variable (a0 : Vec Ideal S4096x7168 .bf16) (a1 : Vec Ideal S4096x7168 .f32) (a2 : Vec Ideal S4096x2048 .fp8e4m3) (a3 : Vec Ideal S4096x16 .f32)
  (a4 : Vec Ideal S2048x7168 .fp8e4m3) (a5 : Vec Ideal S16x56 .f32) (a6 : Vec Ideal S7168 .f32)

/-- Feature `n` of token `t`'s residual stream: what came in, the shared expert's down projection of codes times scales, the routed experts. -/
def stream (t : Fin 4096) (n : Fin 7168) : EReal :=
  ((a0 (ix2 t n) : EReal) + ∑ k : Fin 2048, ((a2 (ix2 t k) : EReal) * a3 (ix2 t ⟨k.val / 128, by omega⟩)) *
    ((a4 (ix2 k n) : EReal) * a5 (ix2 ⟨k.val / 128, by omega⟩ (run n)))) + a1 (ix2 t n)

/-- Feature `n` of token `t` normalised. -/
def entry (t : Fin 4096) (n : Fin 7168) : EReal := Row.normed (stream a0 a1 a2 a3 a4 a5 t) (fun k => a6 (ix1 k)) n

/-- The first result. -/
def OUT1 : Vec Ideal S4096x7168 .bf16 := fun i => stream a0 a1 a2 a3 a4 a5 (i 0) (i 1)

/-- The exponent of token `t`'s run `j`. -/
def power (t : Fin 4096) (j : Fin 56) : EReal := Row.exponent (Row.step fun l => entry a0 a1 a2 a3 a4 a5 a6 t (col j l))

/-- The codes. -/
def OUT2 : Vec Ideal S4096x7168 .fp8e4m3 := fun i =>
  Row.code (entry a0 a1 a2 a3 a4 a5 a6 (i 0) (i 1)) (Ideal.exp2 (0 - power a0 a1 a2 a3 a4 a5 a6 (i 0) (run (i 1))))

/-- The scales. -/
def OUT3 : Vec Ideal S56x4096 .f32 := fun i => Ideal.exp2 (power a0 a1 a2 a3 a4 a5 a6 (i 1) (i 0))

end

variable (m : (ℓ : Loc nD τ sig) → Buf (Elt Ideal) ℓ)

theorem V_hs (c : Dev nD) (y : S4096x2048.Idx) :
    (V m c main_v2 : Vec Ideal S4096x2048 .bf16) y = (m ((c : Thread nD τ).loc main_arg3) : Vec Ideal S4096x16 .f32) (ix2 (y 0) ⟨(y 1).val / 128, by have h : (y 1).val < 2048 := (y 1).isLt; omega⟩) := by
  entry_read
  pointwise

theorem V_ws (c : Dev nD) (y : S2048x7168.Idx) :
    (V m c main_v7 : Vec Ideal S2048x7168 .bf16) y = (m ((c : Thread nD τ).loc main_arg5) : Vec Ideal S16x56 .f32)
      (ix2 ⟨(y 0).val / 128, by have h : (y 0).val < 2048 := (y 0).isLt; omega⟩ (run (y 1))) := by
  entry_read
  pointwise [run]

theorem V_gain (c : Dev nD) (y : S1x7168.Idx) :
    (V m c main_v8 : Vec Ideal S1x7168 .f32) y = (m ((c : Thread nD τ).loc main_arg6) : Vec Ideal S7168 .f32) (ix1 (y 1)) := by
  entry_read
  pointwise

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

theorem row_eq (c : Dev nD) (t : Fin cfg0.N) (r : Fin 4096) (n : Fin 7168) :
    k0_pay4 (F := Ideal) (iblk m c 2 t) (iblk m c 3 t) (iblk m c 4 t) (iblk m c 5 t) (iblk m c 0 t) (iblk m c 1 t) (ix2 r n) =
      stream (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) r n := by
  have e := idx t
  rw [pay4]
  unfold stream
  congr 1
  · congr 1
    · blk_simp [iblk]
      rw [V_main_arg0]
      blk_point [e]
    · refine Finset.sum_congr rfl fun k _ => ?_
      blk_simp [iblk]
      rw [V_main_arg2, V_main_arg4, V_hs, V_ws]
      blk_point [e, run]
  · blk_simp [iblk]
    rw [V_main_arg1]
    blk_point [e]

theorem gain_eq (c : Dev nD) (t : Fin cfg0.N) (n : Fin 7168) :
    (iblk m c 6 t : Vec Ideal S1x7168 .f32) (ix2 0 n) = (m ((c : Thread nD τ).loc main_arg6) : Vec Ideal S7168 .f32) (ix1 n) := by
  have e := idx t
  blk_simp [iblk]
  rw [V_gain]
  blk_point [e]

theorem entry_eq (c : Dev nD) (t : Fin cfg0.N) (r : Fin 4096) (j : Fin 56) (l : Fin 128) :
    k0_pay6 (F := Ideal) (iblk m c 2 t) (iblk m c 3 t) (iblk m c 4 t) (iblk m c 5 t) (iblk m c 0 t) (iblk m c 1 t) (iblk m c 6 t) (ix3 r j l) =
      entry (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) r (col j l) := by
  rw [pay6]
  unfold entry
  rw [funext (row_eq m c t r), funext (gain_eq m c t)]

theorem power_eq (c : Dev nD) (t : Fin cfg0.N) (r : Fin 4096) (j : Fin 56) :
    Row.exponent ((k0_pay7 (F := Ideal) (iblk m c 2 t) (iblk m c 3 t) (iblk m c 4 t) (iblk m c 5 t) (iblk m c 0 t) (iblk m c 1 t) (iblk m c 6 t) (ix3 r j 0) : EReal) * k0_pay8 (F := Ideal) (ix3 r j 0)) =
      power (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) r j := by
  rw [pay78]
  unfold power
  rw [funext (entry_eq m c t r j)]

theorem codes_eq (c : Dev nD) (t : Fin cfg0.N) (r : Fin 4096) (n : Fin 7168) :
    k0_pay2 (k0_pay6 (F := Ideal) (iblk m c 2 t) (iblk m c 3 t) (iblk m c 4 t) (iblk m c 5 t) (iblk m c 0 t) (iblk m c 1 t) (iblk m c 6 t)) (k0_pay7 (F := Ideal) (iblk m c 2 t) (iblk m c 3 t) (iblk m c 4 t) (iblk m c 5 t) (iblk m c 0 t) (iblk m c 1 t) (iblk m c 6 t)) (k0_pay8 (F := Ideal)) (ix2 r n) =
      OUT2 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (ix2 r n) := by
  rw [pay2, power_eq, entry_eq]
  have e : col (run n) ⟨n.val % 128, Nat.mod_lt _ (by decide)⟩ = n := Fin.ext (Nat.div_add_mod n.val 128)
  rw [e]
  rfl

theorem scales_eq (c : Dev nD) (t : Fin cfg0.N) (j : Fin 56) (r : Fin 4096) :
    k0_pay3 (k0_pay7 (F := Ideal) (iblk m c 2 t) (iblk m c 3 t) (iblk m c 4 t) (iblk m c 5 t) (iblk m c 0 t) (iblk m c 1 t) (iblk m c 6 t)) (k0_pay8 (F := Ideal)) (ix2 j r) =
      OUT3 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) (ix2 j r) := by
  rw [pay3]
  exact congrArg Ideal.exp2 (power_eq m c t r j)

/-! ## The arrays after the call -/

theorem array1_eq (c : Dev nD) : (dats m 0 c).arrAt 7 cfg0.N =
    OUT1 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  frame_out
  have e := idx t
  have hy : ((View.whole main_v9_0).slice (win0_7.rect t)).emb y = (ix2 (y 0) (y 1) : S4096x7168.Idx) := by blk_point [e]
  have hz : y = (ix2 (y 0) (y 1) : S4096x7168.Idx) := eq_ix2 y
  rw [hy]
  refine (congrArg (k0_pay5 (F := Ideal) (iblk m c 2 t) (iblk m c 3 t) (iblk m c 4 t) (iblk m c 5 t) (iblk m c 0 t) (iblk m c 1 t)) hz).trans ?_
  exact row_eq m c t (y 0) (y 1)

theorem array2_eq (c : Dev nD) : (dats m 0 c).arrAt 8 cfg0.N =
    OUT2 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  unfold_out out0_8
  frame_out
  have e := idx t
  have hy : ((View.whole main_v9_1).slice (win0_8.rect t)).emb y = (ix2 (y 0) (y 1) : S4096x7168.Idx) := by blk_point [e]
  have hz : y = (ix2 (y 0) (y 1) : S4096x7168.Idx) := eq_ix2 y
  rw [hy]
  exact (congrArg (k0_pay2 _ _ _) hz).trans (codes_eq m c t (y 0) (y 1))

theorem array3_eq (c : Dev nD) : (dats m 0 c).arrAt 9 cfg0.N =
    OUT3 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  unfold_out out0_9
  frame_out
  have e := idx t
  have hy : ((View.whole main_v9_2).slice (win0_9.rect t)).emb y = (ix2 (y 0) (y 1) : S56x4096.Idx) := by blk_point [e]
  have hz : y = (ix2 (y 0) (y 1) : S56x4096.Idx) := eq_ix2 y
  rw [hy]
  exact (congrArg (k0_pay3 _ _) hz).trans (scales_eq m c t (y 0) (y 1))

/-- The reference's run with its results named, its arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v9_0) = (dats m 0 c).arrAt 7 cfg0.N
      ∧ r.2.mem ((c : Thread nD τ).loc main_v9_1) = (dats m 0 c).arrAt 8 cfg0.N
      ∧ r.2.mem ((c : Thread nD τ).loc main_v9_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 7, (h c).1 8, (h c).1 9,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (run_main m ρ)

end Cert.NormRefIdeal.Norm

end
-- ==== Proof.Norm.Same.lean ====
/- The kernel's three results and the reference's are the same, for a finite gain. -/
module

public import proofs.«01_k».proof.Pre_finite_gain
public import proofs.«01_k».proof.Proof.Gen.Pre_finite_gain
public import proofs.«01_k».proof.Proof.Norm.Value
public import proofs.«01_k».proof.Proof.Norm.RefValue
public import Idealize.ShloMosaic.Lib.ReduceAll

@[expose] public section

noncomputable section

namespace Cert.Norm.Same

open Idealize.ShloMosaic

local instance : Cert.Pre_finite_gain.Facts := Cert.Pre_finite_gain.Gen.facts

instance : Subsingleton Cert.Pre_finite_gain.S_.Idx := ⟨fun a b => funext fun i => i.elim0⟩

section
variable (a0 : Vec Ideal Cert.NormIdeal.S4096x7168 .bf16) (a1 : Vec Ideal Cert.NormIdeal.S4096x7168 .f32)
  (a2 : Vec Ideal Cert.NormIdeal.S4096x2048 .fp8e4m3) (a3 : Vec Ideal Cert.NormIdeal.S4096x16 .f32)
  (a4 : Vec Ideal Cert.NormIdeal.S2048x7168 .fp8e4m3) (a5 : Vec Ideal Cert.NormIdeal.S16x56 .f32) (a6 : Vec Ideal Cert.NormIdeal.S7168 .f32)

/-- What the precondition says of each entry of the gain. -/
theorem gain_le (h : Cert.Pre_finite_gain.fn (F := Ideal) a0 a1 a2 a3 a4 a5 a6 = fun _ => 1#1) (n : Fin 7168) :
    max (a6 (ix1 n) : EReal) (-(a6 (ix1 n) : EReal)) ≤ Ideal.ofBits .f32 0x7F7FFFFF#32 := by
  have h' := congrFun h (fun i => i.elim0)
  dsimp only [Cert.Pre_finite_gain.fn] at h'
  have e := Host.reduce_andi_all _ _ _ _ _ h' (ix1 n)
  have e' : Ideal.cmp .ole (max (a6 (ix1 n) : EReal) (-(a6 (ix1 n) : EReal))) (Ideal.ofBits .f32 0x7F7FFFFF#32) = 1#1 := e
  by_contra hn
  simp [Ideal.cmp, hn] at e'

theorem entry_same : Cert.NormIdeal.Norm.entry a0 a1 a2 a3 a4 a5 a6 = Cert.NormRefIdeal.Norm.entry a0 a1 a2 a3 a4 a5 a6 :=
  funext fun _ => funext fun _ => Row.normedK_eq _ _ _

theorem out1_same : Cert.NormRefIdeal.Norm.OUT1 a0 a1 a2 a3 a4 a5 = Cert.NormIdeal.Norm.OUT1 a0 a1 a2 a3 a4 a5 := rfl

variable (hg : ∀ n : Fin 7168, max (a6 (ix1 n) : EReal) (-(a6 (ix1 n) : EReal)) ≤ Ideal.ofBits .f32 0x7F7FFFFF#32)
include hg

/-- The scale of a run and its reciprocal: the kernel's words and the reference's powers. -/
theorem powers_same (t : Fin 4096) (j : Fin 56) :
    Row.powerK (Cert.NormIdeal.Norm.word a0 a1 a2 a3 a4 a5 a6 t j) = Ideal.exp2 (Cert.NormRefIdeal.Norm.power a0 a1 a2 a3 a4 a5 a6 t j)
    ∧ Row.powerK (IntOp.subi 0#32 (Cert.NormIdeal.Norm.word a0 a1 a2 a3 a4 a5 a6 t j))
      = Ideal.exp2 (0 - Cert.NormRefIdeal.Norm.power a0 a1 a2 a3 a4 a5 a6 t j) := by
  unfold Cert.NormIdeal.Norm.word Cert.NormRefIdeal.Norm.power
  rw [entry_same]
  obtain ⟨a, h0, h1, ha⟩ := Row.step_real (fun l => Cert.NormRefIdeal.Norm.entry a0 a1 a2 a3 a4 a5 a6 t (Cert.NormRefIdeal.Norm.col j l))
    fun l => Row.normed_bound _ _ hg _
  have hc : (fun l => Cert.NormRefIdeal.Norm.entry a0 a1 a2 a3 a4 a5 a6 t (Cert.NormIdeal.Norm.col j l))
      = fun l => Cert.NormRefIdeal.Norm.entry a0 a1 a2 a3 a4 a5 a6 t (Cert.NormRefIdeal.Norm.col j l) := rfl
  rw [hc, ha]
  exact Row.powers_eq a h0 h1

theorem out2_same : Cert.NormRefIdeal.Norm.OUT2 a0 a1 a2 a3 a4 a5 a6 = Cert.NormIdeal.Norm.OUT2 a0 a1 a2 a3 a4 a5 a6 := by
  funext i
  unfold Cert.NormRefIdeal.Norm.OUT2 Cert.NormIdeal.Norm.OUT2
  exact congrArg₂ Row.code (congrFun (congrFun (entry_same a0 a1 a2 a3 a4 a5 a6).symm (i 0)) (i 1)) (powers_same a0 a1 a2 a3 a4 a5 a6 hg (i 0) (Cert.NormIdeal.Norm.run (i 1))).2.symm

theorem out3_same : Cert.NormRefIdeal.Norm.OUT3 a0 a1 a2 a3 a4 a5 a6 = Cert.NormIdeal.Norm.OUT3 a0 a1 a2 a3 a4 a5 a6 :=
  funext fun _ => ((powers_same a0 a1 a2 a3 a4 a5 a6 hg _ _).1).symm

end

end Cert.Norm.Same

end
-- ==== Proof.lean ====
/- The proof of the certificate's claims about two calls, dense1 (the shared product, the norm and the quantiser) and dense2 (the qkv
   product): each runs to its end with its arguments unchanged, its idealisation is the call over the extended reals, and over the
   extended reals it computes the same arrays as the plainly written reference. -/
module

public import proofs.«01_k».proof.Defs
public import proofs.«01_k».proof.Proof.Bits.Frame
public import proofs.«01_k».proof.Proof.Gen.QkvIdeal
public import proofs.«01_k».proof.Proof.Gen.QkvRefIdeal
public import proofs.«01_k».proof.Proof.Qkv.Value
public import proofs.«01_k».proof.Proof.Qkv.RefValue
public import proofs.«01_k».proof.Proof.Gen.Norm
public import proofs.«01_k».proof.Proof.Gen.NormIdeal
public import proofs.«01_k».proof.Proof.Gen.NormRefIdeal
public import proofs.«01_k».proof.Proof.NormBits.Frame
public import proofs.«01_k».proof.Proof.Norm.Same
public import Idealize.ShloMosaic.Adequacy
public import Idealize.ShloMosaic.Init

@[expose] public section

noncomputable section

namespace Cert.Proof

open Idealize.ShloMosaic Idealize.SL.Sem

/-! ## The qkv product -/

/-- The kernel's product and the reference's are the same sums: each term's two factors in the other order. -/
theorem qkv_same (a0 : Vec Ideal Cert.QkvIdeal.S4096x7168 .fp8e4m3) (a1 : Vec Ideal Cert.QkvIdeal.S56x4096 .f32)
    (a2 : Vec Ideal Cert.QkvIdeal.S7168x2112 .fp8e4m3) (a3 : Vec Ideal Cert.QkvIdeal.S56x17 .f32) :
    Cert.QkvRefIdeal.Qkv.QKV a0 a1 a2 a3 = Cert.QkvIdeal.Qkv.QKV a0 a1 a2 a3 :=
  funext fun _ => Finset.sum_congr rfl fun _ _ => mul_comm _ _

theorem qkv_algebraic : Cert.algebraic_QkvIdeal_QkvRefIdeal (hQkvIdeal := Cert.QkvIdeal.Gen.facts) (hQkvRefIdeal := Cert.QkvRefIdeal.Gen.facts) := by
  intro m g m' g' _ hm
  refine ⟨fun c => Cert.QkvIdeal.Qkv.QKV (m ((c.tc : Thread _ _).loc Cert.QkvIdeal.main_arg0)) (m ((c.tc : Thread _ _).loc Cert.QkvIdeal.main_arg1))
    (m ((c.tc : Thread _ _).loc Cert.QkvIdeal.main_arg2)) (m ((c.tc : Thread _ _).loc Cert.QkvIdeal.main_arg3)), ?_, ?_⟩
  · refine (θ_run _ _ _).mono (fun r h c => ⟨(h c).1.trans (Cert.QkvIdeal.Qkv.array_eq m c), (h c).2⟩) (Cert.QkvIdeal.Qkv.run_blocks m g)
  · refine (θ_run _ _ _).mono (fun r h c => ⟨(h c).1.trans ?_, (h c).2⟩) (Cert.QkvRefIdeal.Value.run_blocks m' g')
    obtain ⟨h0, h1, h2, h3⟩ := hm c
    refine (Cert.QkvRefIdeal.Qkv.array_eq m' c).trans ?_
    rw [h0, h1, h2, h3]
    exact qkv_same _ _ _ _

/-! ## The norm and the quantiser -/

theorem norm_algebraic : Cert.algebraic_NormIdeal_NormRefIdeal_pre_finite_gain (hNormIdeal := Cert.NormIdeal.Gen.facts)
    (hNormRefIdeal := Cert.NormRefIdeal.Gen.facts) (hPre_finite_gain := Cert.Pre_finite_gain.Gen.facts) := by
  intro m g m' g' hpre hm
  refine ⟨fun c => Cert.NormIdeal.Norm.OUT1 (m ((c.tc : Thread _ _).loc Cert.NormIdeal.main_arg0)) (m ((c.tc : Thread _ _).loc Cert.NormIdeal.main_arg1))
      (m ((c.tc : Thread _ _).loc Cert.NormIdeal.main_arg2)) (m ((c.tc : Thread _ _).loc Cert.NormIdeal.main_arg3))
      (m ((c.tc : Thread _ _).loc Cert.NormIdeal.main_arg4)) (m ((c.tc : Thread _ _).loc Cert.NormIdeal.main_arg5)),
    fun c => Cert.NormIdeal.Norm.OUT2 (m ((c.tc : Thread _ _).loc Cert.NormIdeal.main_arg0)) (m ((c.tc : Thread _ _).loc Cert.NormIdeal.main_arg1))
      (m ((c.tc : Thread _ _).loc Cert.NormIdeal.main_arg2)) (m ((c.tc : Thread _ _).loc Cert.NormIdeal.main_arg3))
      (m ((c.tc : Thread _ _).loc Cert.NormIdeal.main_arg4)) (m ((c.tc : Thread _ _).loc Cert.NormIdeal.main_arg5)) (m ((c.tc : Thread _ _).loc Cert.NormIdeal.main_arg6)),
    fun c => Cert.NormIdeal.Norm.OUT3 (m ((c.tc : Thread _ _).loc Cert.NormIdeal.main_arg0)) (m ((c.tc : Thread _ _).loc Cert.NormIdeal.main_arg1))
      (m ((c.tc : Thread _ _).loc Cert.NormIdeal.main_arg2)) (m ((c.tc : Thread _ _).loc Cert.NormIdeal.main_arg3))
      (m ((c.tc : Thread _ _).loc Cert.NormIdeal.main_arg4)) (m ((c.tc : Thread _ _).loc Cert.NormIdeal.main_arg5)) (m ((c.tc : Thread _ _).loc Cert.NormIdeal.main_arg6)),
    ?_, ?_⟩
  · exact (θ_run _ _ _).mono (fun r h c => ⟨(h c).1.trans (Cert.NormIdeal.Norm.array1_eq m c), (h c).2.1.trans (Cert.NormIdeal.Norm.array2_eq m c),
      (h c).2.2.1.trans (Cert.NormIdeal.Norm.array3_eq m c), (h c).2.2.2⟩) (Cert.NormIdeal.Norm.run_blocks m g)
  · refine (θ_run _ _ _).mono (fun r h c => ⟨(h c).1.trans ?_, (h c).2.1.trans ?_, (h c).2.2.1.trans ?_, (h c).2.2.2⟩)
      (Cert.NormRefIdeal.Norm.run_blocks m' g')
    all_goals
      obtain ⟨h0, h1, h2, h3, h4, h5, h6⟩ := hm c
    · refine (Cert.NormRefIdeal.Norm.array1_eq m' c).trans ?_
      rw [h0, h1, h2, h3, h4, h5]
      exact Cert.Norm.Same.out1_same _ _ _ _ _ _
    · refine (Cert.NormRefIdeal.Norm.array2_eq m' c).trans ?_
      rw [h0, h1, h2, h3, h4, h5, h6]
      exact Cert.Norm.Same.out2_same _ _ _ _ _ _ _ (Cert.Norm.Same.gain_le _ _ _ _ _ _ _ (hpre c))
    · refine (Cert.NormRefIdeal.Norm.array3_eq m' c).trans ?_
      rw [h0, h1, h2, h3, h4, h5, h6]
      exact Cert.Norm.Same.out3_same _ _ _ _ _ _ _ (Cert.Norm.Same.gain_le _ _ _ _ _ _ _ (hpre c))

/-- The reciprocal of the width, stored rounded to f32, stands for 1/7168. -/
theorem norm_preserves : Cert.preserves_Norm_NormIdeal :=
  IdealRules.named_const.statement Cert.NormIdeal.κ "inv_d" .f32 0x39124925#32 ((1 / 7168 : ℝ) : EReal) rfl

theorem claim : Cert.Claim := ⟨Cert.Norm.Gen.facts, Cert.NormIdeal.Gen.facts, Cert.NormRefIdeal.Gen.facts, Cert.Qkv.Gen.facts,
  Cert.QkvIdeal.Gen.facts, Cert.QkvRefIdeal.Gen.facts, Cert.Pre_finite_gain.Gen.facts,
  fun m ρ _ => Cert.Norm.Bits.frame m ρ, fun m ρ _ => Cert.NormIdeal.Norm.frame m ρ, fun m ρ _ => Cert.NormIdeal.Norm.frame m ρ,
  fun m ρ _ => Cert.NormRefIdeal.Gen.frame m ρ, fun m ρ _ => Cert.NormRefIdeal.Gen.frame m ρ,
  fun m ρ _ => Cert.Qkv.Bits.frame m ρ, fun m ρ _ => Cert.QkvIdeal.Qkv.frame m ρ, fun m ρ _ => Cert.QkvRefIdeal.Gen.frame m ρ,
  norm_preserves, norm_algebraic, trivial, qkv_algebraic⟩

end Cert.Proof

end
